-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x64 : Shape := ⟨3, ![4, 256, 64]⟩
abbrev S1024x64 : Shape := ⟨2, ![1024, 64]⟩
abbrev S_ : Shape := ⟨0, ![]⟩

class Facts : Prop where
  bcast_S_S4x256x64 : S_.BroadcastsInDim S4x256x64 (![] : Fin 0 → Fin S4x256x64.rank)
  reducesTo_S4x256x64_S_d0_1_2 : S4x256x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S4x256x64 .f32) (main_arg1 : FVec F S1024x64 .f32) : IVec S_ 1 :=
  let main_v0 : FVec F S4x256x64 .f32 := Host.absf main_arg0
  let main_cst : FVec F S_ .f32 := constant S_ .f32 0x7F800000#32
  let main_v1 : FVec F S4x256x64 .f32 := broadcastInDim S4x256x64 ![] bcast_S_S4x256x64 main_cst
  let main_v2 : IVec S4x256x64 1 := cmpf .olt main_v0 main_v1
  let main_c : IVec S_ 1 := constantI S_ 1 1#1
  let main_v3 : IVec S_ 1 := (fun x v => Host.reduce IntOp.andi x v reducesTo_S4x256x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S4x256x64 : Shape := ⟨3, ![4, 256, 64]⟩
abbrev S1024x64 : Shape := ⟨2, ![1024, 64]⟩
abbrev S1024x1 : Shape := ⟨2, ![1024, 1]⟩
abbrev S1024 : Shape := ⟨1, ![1024]⟩
abbrev S1024x195 : Shape := ⟨2, ![1024, 195]⟩
abbrev S1024x3 : Shape := ⟨2, ![1024, 3]⟩
abbrev S1024x1024 : Shape := ⟨2, ![1024, 1024]⟩
abbrev S_ : Shape := ⟨0, ![]⟩
abbrev S1032x128 : Shape := ⟨2, ![1032, 128]⟩
abbrev S1024x128 : Shape := ⟨2, ![1024, 128]⟩
abbrev S32 : Shape := ⟨1, ![32]⟩
abbrev S32x128 : Shape := ⟨2, ![32, 128]⟩
abbrev S4x256 : Shape := ⟨2, ![4, 256]⟩

abbrev nBuf : Table → Nat
  | .hbm => 12
  | .local .tc .vmem => 3
  | .local .scVector .vmem => 2
  | _ => 0

abbrev bufTy : (tb : Table) → Fin (nBuf tb) → BufTy
  | .hbm, ⟨0, _⟩ => ⟨S4x256x64, .f32⟩
  | .hbm, ⟨1, _⟩ => ⟨S1024x64, .f32⟩
  | .hbm, ⟨2, _⟩ => ⟨S1024x64, .f32⟩
  | .hbm, ⟨3, _⟩ => ⟨S1024x1, .i32⟩
  | .hbm, ⟨4, _⟩ => ⟨S_, .i32⟩
  | .hbm, ⟨5, _⟩ => ⟨S_, .f32⟩
  | .hbm, ⟨6, _⟩ => ⟨S1032x128, .f32⟩
  | .hbm, ⟨7, _⟩ => ⟨S1024, .i32⟩
  | .hbm, ⟨8, _⟩ => ⟨S1024x128, .f32⟩
  | .hbm, ⟨9, _⟩ => ⟨S1024x64, .f32⟩
  | .hbm, ⟨10, _⟩ => ⟨S4x256x64, .f32⟩
  | .hbm, ⟨11, _⟩ => ⟨S4x256, .i32⟩
  | .local .tc .vmem, ⟨0, _⟩ => ⟨S1024x64, .f32⟩
  | .local .tc .vmem, ⟨1, _⟩ => ⟨S1024x64, .f32⟩
  | .local .tc .vmem, ⟨2, _⟩ => ⟨S1024x1, .i32⟩
  | .local .scVector .vmem, ⟨0, _⟩ => ⟨S32, .i32⟩
  | .local .scVector .vmem, ⟨1, _⟩ => ⟨S32x128, .f32⟩
  | _, _ => ⟨S4x256x64, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x256x64 : Shape := ⟨3, ![4, 256, 64]⟩
abbrev S1024x64 : Shape := ⟨2, ![1024, 64]⟩
abbrev S4x256x1x64 : Shape := ⟨4, ![4, 256, 1, 64]⟩
abbrev S1x1x1024x64 : Shape := ⟨4, ![1, 1, 1024, 64]⟩
abbrev S4x256x1024x64 : Shape := ⟨4, ![4, 256, 1024, 64]⟩
abbrev S_ : Shape := ⟨0, ![]⟩
abbrev S4x256x1024 : Shape := ⟨3, ![4, 256, 1024]⟩
abbrev S4x256 : Shape := ⟨2, ![4, 256]⟩
abbrev S4x256x1 : Shape := ⟨3, ![4, 256, 1]⟩
abbrev S1 : Shape := ⟨1, ![1]⟩
abbrev S1x1x1 : Shape := ⟨3, ![1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x256x64, .f32⟩
  | .hbm, ⟨1, _⟩ => ⟨S1024x64, .f32⟩
  | .hbm, ⟨2, _⟩ => ⟨S4x256x1x64, .f32⟩
  | .hbm, ⟨3, _⟩ => ⟨S1x1x1024x64, .f32⟩
  | .hbm, ⟨4, _⟩ => ⟨S4x256x1024x64, .f32⟩
  | .hbm, ⟨5, _⟩ => ⟨S4x256x1024x64, .f32⟩
  | .hbm, ⟨6, _⟩ => ⟨S4x256x1024x64, .f32⟩
  | .hbm, ⟨7, _⟩ => ⟨S4x256x1024x64, .f32⟩
  | .hbm, ⟨8, _⟩ => ⟨S_, .f32⟩
  | .hbm, ⟨9, _⟩ => ⟨S4x256x1024, .f32⟩
  | .hbm, ⟨10, _⟩ => ⟨S4x256x1024, .f32⟩
  | .hbm, ⟨11, _⟩ => ⟨S4x256x1024, .i32⟩
  | .hbm, ⟨12, _⟩ => ⟨S_, .f32⟩
  | .hbm, ⟨13, _⟩ => ⟨S_, .i32⟩
  | .hbm, ⟨14, _⟩ => ⟨S4x256, .f32⟩
  | .hbm, ⟨15, _⟩ => ⟨S4x256, .i32⟩
  | .hbm, ⟨16, _⟩ => ⟨S_, .i32⟩
  | .hbm, ⟨17, _⟩ => ⟨S4x256, .i32⟩
  | .hbm, ⟨18, _⟩ => ⟨S4x256, .i1⟩
  | .hbm, ⟨19, _⟩ => ⟨S_, .i32⟩
  | .hbm, ⟨20, _⟩ => ⟨S4x256, .i32⟩
  | .hbm, ⟨21, _⟩ => ⟨S4x256, .i32⟩
  | .hbm, ⟨22, _⟩ => ⟨S4x256, .i32⟩
  | .hbm, ⟨23, _⟩ => ⟨S4x256x1, .i32⟩
  | .hbm, ⟨24, _⟩ => ⟨S1, .i32⟩
  | .hbm, ⟨25, _⟩ => ⟨S_, .i32⟩
  | .hbm, ⟨26, _⟩ => ⟨S4x256x1, .i32⟩
  | .hbm, ⟨27, _⟩ => ⟨S4x256x1, .i1⟩
  | .hbm, ⟨28, _⟩ => ⟨S1x1x1, .i32⟩
  | .hbm, ⟨29, _⟩ => ⟨S4x256x1, .i32⟩
  | .hbm, ⟨30, _⟩ => ⟨S4x256x1, .i1⟩
  | .hbm, ⟨31, _⟩ => ⟨S4x256x1, .i1⟩
  | .hbm, ⟨32, _⟩ => ⟨S_, .i1⟩
  | .hbm, ⟨33, _⟩ => ⟨S4x256, .i1⟩
  | .hbm, ⟨34, _⟩ => ⟨S4x256x64, .f32⟩
  | .hbm, ⟨35, _⟩ => ⟨S4x256x64, .i1⟩
  | .hbm, ⟨36, _⟩ => ⟨S_, .f32⟩
  | .hbm, ⟨37, _⟩ => ⟨S4x256x64, .f32⟩
  | .hbm, ⟨38, _⟩ => ⟨S4x256x64, .f32⟩
  | _, _ => ⟨S4x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_c : Ref sig .tc := ⟨.hbm, 13, rfl⟩
abbrev main_call1_v1_0 : Ref sig .tc := ⟨.hbm, 14, rfl⟩
abbrev main_v6 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_v14 : Ref sig .tc := ⟨.hbm, 35, rfl⟩
abbrev main_call2_cst : Ref sig .tc := ⟨.hbm, 36, rfl⟩
abbrev main_call2_v15 : Ref sig .tc := ⟨.hbm, 37, rfl⟩
abbrev main_v7 : Ref sig .tc := ⟨.hbm, 38, rfl⟩

abbrev nD : Nat := 1
abbrev τ : Topo := Topo.v7x

variable {F : FTy → Type} [FloatOps F]
-- ==== Proof.Base.lean ====
/-
  The set-up shared by every later module: the kernel's program as the SparseCore launch theorem sees it, the resource
  algebra (the launch handshakes' rounds, the TensorCore pipeline's rounds, the transfers' counters), the locations of
  the arrays the two kernels pass each other, and how those arrays divide among the thirty-two vector subcores.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Transfers

@[expose] public section

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program at the launch -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the SparseCore semaphores and the shared buffers of this program. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- Where the TensorCore pipeline's rounds live. -/
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-- The launch's ghost state, taken apart. -/
theorem ownU_split (a : UH) (b : UP) :
    (ownU ((a, (b, 1)) : UU) : sProp 𝕄) ⊢ iprop(own ((EH (F := F)) a) ∗ own ((EP (F := F)) b)) :=
  (ownU_pair a ((b, 1) : UP × Counters)).trans (sep_mono_right ((own_pair_emb embR b (1 : Counters)).trans sep_elim_left))

/-! ## The arrays the two kernels share -/

abbrev iLoc (d : Dev nD) : Loc nD τ sig := (SparseCore.T d).loc main_v3
abbrev xLoc (d : Dev nD) : Loc nD τ sig := (SparseCore.T d).loc main_v2
abbrev oLoc (d : Dev nD) : Loc nD τ sig := (SparseCore.T d).loc main_v4

theorem idiv : 32 ∣ S1024.size 0 := ⟨32, rfl⟩
theorem odiv : 32 ∣ S1024x128.size 0 := ⟨32, rfl⟩
/-- Block `w` of the index list and of the gathered rows: thirty-two rows each. -/
abbrev irow (w : Fin 32) : Rect S1024 := Rect.part (s := S1024) (a₀ := 0) idiv w
abbrev orow (w : Fin 32) : Rect S1024x128 := Rect.part (s := S1024x128) (a₀ := 0) odiv w
abbrev iBlk (w : Fin 32) : Finset S1024.Idx := (irow w).set
abbrev oBlk (w : Fin 32) : Finset S1024x128.Idx := (orow w).set

/-- The number of the worker on subcore `s` of SparseCore `c`. -/
def wid (c : Fin 2) (s : Fin 16) : Fin 32 := ⟨s.val * 2 + c.val, by omega⟩

/-- The row of the table that index word `n` names. -/
def tRow (n : ℕ) (h : n < 1032) (l : Fin 128) : S1032x128.Idx := fun a => match a with | 0 => ⟨n, h⟩ | 1 => l
/-- The position of row `r` in the index list. -/
def iPos (r : Fin 1024) : S1024.Idx := fun a => match a with | 0 => r

/-- What the gather leaves: row `r` is the table's row at the index list's word `r` (a word naming no row names row 0;
    the index lists met here have none). -/
def gathered {e : EltTy} (tb : S1032x128.Idx → Elt F e) (ix : S1024.Idx → BitVec 32) : S1024x128.Idx → Elt F e := fun j =>
  if h : (ix (iPos (j 0))).toNat < 1032 then tb (tRow _ h (j 1)) else tb (tRow 0 (by decide) (j 1))

/-- Worker `w`'s part: its block of the index list, a thirty-second of the table, its block of the output. -/
def part (d : Dev nD) (ix : Buf (Elt F) (iLoc d)) (tb : Buf (Elt F) (xLoc d)) (f : Buf (Elt F) (oLoc d)) (w : Fin 32) : sProp 𝕄 :=
  iprop((iLoc d ↦[iBlk w]{fullShare} ix) ∗ (xLoc d ↦{Transfers.shareTok fullShare 32 w} tb) ∗ (oLoc d ↦[oBlk w]{fullShare} f))

instance part_storable (d : Dev nD) (ix : Buf (Elt F) (iLoc d)) (tb : Buf (Elt F) (xLoc d)) (f : Buf (Elt F) (oLoc d)) (w : Fin 32) :
    BI.Storable (upEmb : UEmb _ 𝕄) (part d ix tb f w) := by unfold part; infer_instance

theorem iPts_blocks (d : Dev nD) (f : Buf (Elt F) (iLoc d)) :
    (iLoc d ↦{fullShare} f : sProp 𝕄) = bigSep Finset.univ fun w : Fin 32 => iLoc d ↦[iBlk w]{fullShare} f := by
  rw [← pointsTo_biUnion Finset.univ (ℓ := iLoc d) iBlk fun i _ j _ h => Rect.part_disjoint idiv h,
    show (Finset.univ : Finset (Fin 32)).biUnion iBlk = Finset.univ from Rect.biUnion_part idiv]; try rfl
theorem oPts_blocks (d : Dev nD) (f : Buf (Elt F) (oLoc d)) :
    (oLoc d ↦{fullShare} f : sProp 𝕄) = bigSep Finset.univ fun w : Fin 32 => oLoc d ↦[oBlk w]{fullShare} f := by
  rw [← pointsTo_biUnion Finset.univ (ℓ := oLoc d) oBlk fun i _ j _ h => Rect.part_disjoint odiv h,
    show (Finset.univ : Finset (Fin 32)).biUnion oBlk = Finset.univ from Rect.biUnion_part odiv]; try rfl

/-- Workers numbered by subcore and SparseCore. -/
def widEquiv : Fin 2 × Fin 16 ≃ Fin 32 where
  toFun p := wid p.1 p.2
  invFun w := (⟨w.val % 2, by omega⟩, ⟨w.val / 2, by omega⟩)
  left_inv p := by
    obtain ⟨c, s⟩ := p
    refine Prod.ext (Fin.ext ?_) (Fin.ext ?_)
    · show (s.val * 2 + c.val) % 2 = c.val; omega
    · show (s.val * 2 + c.val) / 2 = s.val; omega
  right_inv w := Fin.ext (by show w.val / 2 * 2 + w.val % 2 = w.val; omega)

/-- The three arrays whole are the workers' parts, and what is left of the table's share. -/
theorem parts_eq (d : Dev nD) (ix : Buf (Elt F) (iLoc d)) (tb : Buf (Elt F) (xLoc d)) (f : Buf (Elt F) (oLoc d)) :
    (iprop((iLoc d ↦{fullShare} ix) ∗ (xLoc d ↦{fullShare} tb) ∗ (oLoc d ↦{fullShare} f)) : sProp 𝕄)
      ⊣⊢ iprop((xLoc d ↦{Transfers.shareDrop fullShare 32} tb)
          ∗ bigSep Finset.univ fun c : Fin 2 => bigSep Finset.univ fun s : Fin 16 => part d ix tb f (wid c s)) := by
  have e : (bigSep Finset.univ fun c : Fin 2 => bigSep Finset.univ fun s : Fin 16 => part d ix tb f (wid c s))
      = bigSep Finset.univ fun w : Fin 32 => part d ix tb f w := by
    rw [bigSep_univ_equiv widEquiv (fun w : Fin 32 => part d ix tb f w), bigSep_univ_prod]; rfl
  rw [e, iPts_blocks, oPts_blocks]
  unfold part
  rw [show (bigSep Finset.univ fun w : Fin 32 => (iprop((iLoc d ↦[iBlk w]{fullShare} ix) ∗ (xLoc d ↦{Transfers.shareTok fullShare 32 w} tb)
        ∗ (oLoc d ↦[oBlk w]{fullShare} f)) : sProp 𝕄))
      = iprop((bigSep Finset.univ fun w : Fin 32 => iLoc d ↦[iBlk w]{fullShare} ix)
        ∗ (bigSep Finset.univ fun w : Fin 32 => xLoc d ↦{Transfers.shareTok fullShare 32 w} tb)
        ∗ (bigSep Finset.univ fun w : Fin 32 => oLoc d ↦[oBlk w]{fullShare} f))
    from (bigSep_sep _ _ _).trans (congrArg _ (bigSep_sep _ _ _))]
  constructor
  · iintro ⟨Hi, Hx, Ho⟩
    ihave Hx' := (Transfers.pointsTo_toks (ℓ := xLoc d) (S := Finset.univ) (f := tb) fullShare 32).1 $$ Hx
    icases Hx' with ⟨Hd, Ht⟩
    isplitl [Hd]; · iexact Hd
    isplitl [Hi]; · iexact Hi
    isplitl [Ht]; · iexact Ht
    iexact Ho
  · iintro ⟨Hd, Hi, Ht, Ho⟩
    isplitl [Hi]; · iexact Hi
    isplitl [Hd Ht]
    · iapply (Transfers.pointsTo_toks (ℓ := xLoc d) (S := Finset.univ) (f := tb) fullShare 32).2
      isplitl [Hd] <;> iassumption
    iexact Ho

end Cert.Proof.VQ

end
-- ==== Proof.Tile.lean ====
/-
  One vector subcore's task, with its value: the subcore fetches its thirty-two index words, gathers the table's rows
  they name, and writes them out to its block of the output. Stated at a symbolic (SparseCore, subcore).
-/
module

public import proofs.«01_k».proof.Proof.Base

@[expose] public section

set_option maxRecDepth 16384

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and the scratch, as the subcore names them -/

abbrev iM : Memref sig .scVector .hbm S1024 .i32 := Memref.whole main_v3_scv
abbrev xM : Memref sig .scVector .hbm S1032x128 .f32 := Memref.whole main_v2_scv
abbrev oM : Memref sig .scVector .hbm S1024x128 .f32 := Memref.whole main_v4_scv
abbrev lM : Memref sig .scVector .vmem S32 .i32 := Memref.whole cc1_scratch0
abbrev rM : Memref sig .scVector .vmem S32x128 .f32 := Memref.whole cc1_scratch1

section Subcore

variable (d : Dev nD) (L : grid1.Coords)

abbrev cOf (L : grid1.Coords) : Fin τ.nSC := (L 0).castLE hcore1
abbrev sOf (L : grid1.Coords) : Fin τ.nSub := (L 1).castLE hsub1
theorem bound_zero : grid1.bound 0 = 2 := rfl
theorem bound_one : grid1.bound 1 = 16 := rfl
/-- The subcore's worker number. -/
abbrev wOf (L : grid1.Coords) : Fin 32 := wid (Fin.cast bound_zero (L 0)) (Fin.cast bound_one (L 1))

/-- The subcore's thread. -/
abbrev vt (d : Dev nD) (L : grid1.Coords) : Thread nD τ := V d (cOf L) (sOf L)

abbrev iSlice (L : grid1.Coords) : Memref sig .scVector .hbm S32 .i32 :=
  (iM).slice (Rect.unit (s := S1024) (k1_off1 L) S32.size (k1_off1_inb L)) (fun _ => rfl)
abbrev oSlice (L : grid1.Coords) : Memref sig .scVector .hbm S32x128 .f32 :=
  (oM).slice (Rect.unit (s := S1024x128) (k1_off2 L) S32x128.size (k1_off2_inb L)) (fun _ => rfl)
abbrev xAll : Memref sig .scVector .hbm S1032x128 .f32 :=
  (xM).slice (Rect.unit (s := S1032x128) ![0, 0] S1032x128.size inb_S1032x128_S1032x128_0_0) (fun _ => rfl)

theorem rect_i : Rect.unit (s := S1024) (k1_off1 L) S32.size (k1_off1_inb L) = irow (wOf L) := by
  unfold irow Rect.part Rect.block
  congr 1 <;> funext a
  · rw [k1_off1_eq]
    match a with
    | 0 =>
      show 64 * (L 1).val + 32 * (L 0).val = _
      simp [Shape.partIx, Shape.partSize, wid]
      show 64 * (L 1).val + 32 * (L 0).val = ((L 1).val * 2 + (L 0).val) * 32
      omega
  · match a with
    | 0 => simp [Shape.partSize]
theorem rect_o : Rect.unit (s := S1024x128) (k1_off2 L) S32x128.size (k1_off2_inb L) = orow (wOf L) := by
  unfold orow Rect.part Rect.block
  congr 1 <;> funext a
  · rw [k1_off2_eq]
    match a with
    | 0 =>
      show 64 * (L 1).val + 32 * (L 0).val = _
      simp [Shape.partIx, Shape.partSize, wid]
      show 64 * (L 1).val + 32 * (L 0).val = ((L 1).val * 2 + (L 0).val) * 32
      omega
    | 1 => simp [Shape.partIx, Shape.partSize]
  · match a with
    | 0 => simp [Shape.partSize]
    | 1 => simp [Shape.partSize]

theorem set_iSlice : (iSlice L).view.set = iBlk (wOf L) := by
  show ((View.whole (main_v3_scv : Ref sig .scVector)).slice (Rect.unit (s := S1024) (k1_off1 L) S32.size (k1_off1_inb L))).set = _
  rw [View.set_slice]
  exact Finset.map_refl.trans (congrArg (fun r : Rect S1024 => r.set) (rect_i L))
theorem set_oSlice : (oSlice L).view.set = oBlk (wOf L) := by
  show ((View.whole (main_v4_scv : Ref sig .scVector)).slice (Rect.unit (s := S1024x128) (k1_off2 L) S32x128.size (k1_off2_inb L))).set = _
  rw [View.set_slice]
  exact Finset.map_refl.trans (congrArg (fun r : Rect S1024x128 => r.set) (rect_o L))

theorem pts_i (f : Buf (Elt F) (iLoc d)) :
    ((iSlice L).view.loc (vt d L) ↦[(iSlice L).view.set]{fullShare} f : sProp 𝕄) = iLoc d ↦[iBlk (wOf L)]{fullShare} f := by
  rw [set_iSlice]
theorem pts_o (f : Buf (Elt F) (oLoc d)) :
    ((oSlice L).view.loc (vt d L) ↦[(oSlice L).view.set]{fullShare} f : sProp 𝕄) = oLoc d ↦[oBlk (wOf L)]{fullShare} f := by
  rw [set_oSlice]
theorem pts_x (q : PosShare TreeShare) (f : Buf (Elt F) (xLoc d)) :
    ((xM).view.loc (vt d L) ↦{q} f : sProp 𝕄) = xLoc d ↦{q} f := rfl
theorem pts_l (f : Buf (Elt F) ((vt d L).loc cc1_scratch0)) :
    ((lM).view.loc (vt d L) ↦{fullShare} f : sProp 𝕄) = (vt d L).loc cc1_scratch0 ↦{fullShare} f := rfl
theorem pts_r (f : Buf (Elt F) ((vt d L).loc cc1_scratch1)) :
    ((rM).view.loc (vt d L) ↦{fullShare} f : sProp 𝕄) = (vt d L).loc cc1_scratch1 ↦{fullShare} f := rfl

/-! ## The subcore's own semaphores and buffers -/

abbrev cellI (d : Dev nD) (c : Fin τ.nSC) (i : Fin τ.nSub) : GSem nD τ sig := (V d c i, .dma cc1_scratch2.sem)
abbrev cellG (d : Dev nD) (c : Fin τ.nSC) (i : Fin τ.nSub) : GSem nD τ sig := (V d c i, .dma cc1_scratch3.sem)
abbrev cellO (d : Dev nD) (c : Fin τ.nSC) (i : Fin τ.nSub) : GSem nD τ sig := (V d c i, .dma cc1_scoped0.sem)

theorem sems_eq :
    (ownSems0 (vt d L) : sProp 𝕄)
      = iprop(semVal (cellI d (cOf L) (sOf L)) 0 ∗ semVal (cellG d (cOf L) (sOf L)) 0 ∗ semVal (cellO d (cOf L) (sOf L)) 0
          ∗ bigSep ((((ownCells (vt d L)).erase (cellI d (cOf L) (sOf L))).erase (cellG d (cOf L) (sOf L))).erase (cellO d (cOf L) (sOf L))) fun g => semVal g 0) := by
  have hI : cellI d (cOf L) (sOf L) ∈ ownCells (vt d L) := (mem_ownCells).mpr ⟨rfl, by
    show (SemLoc.dma cc1_scratch2.sem : SemLoc sig).isScoped .scVector = true; decide⟩
  have hG : cellG d (cOf L) (sOf L) ∈ ownCells (vt d L) := (mem_ownCells).mpr ⟨rfl, by
    show (SemLoc.dma cc1_scratch3.sem : SemLoc sig).isScoped .scVector = true; decide⟩
  have hO : cellO d (cOf L) (sOf L) ∈ ownCells (vt d L) := (mem_ownCells).mpr ⟨rfl, by
    show (SemLoc.dma cc1_scoped0.sem : SemLoc sig).isScoped .scVector = true; decide⟩
  unfold SparseCore.Cfg.ownSems0
  rw [SparseCore.bigSep_erase' hI,
    SparseCore.bigSep_erase' (Finset.mem_erase.mpr ⟨by simp [cellI, cellG]; decide, hG⟩),
    SparseCore.bigSep_erase' (Finset.mem_erase.mpr ⟨by simp [cellG, cellO]; decide, Finset.mem_erase.mpr ⟨by simp [cellI, cellO]; decide, hO⟩⟩)]

theorem bufs_eq :
    (ownBufs (vt d L) : sProp 𝕄)
      = iprop((∃ f, (vt d L).loc cc1_scratch0 ↦{fullShare} f) ∗ (∃ f, (vt d L).loc cc1_scratch1 ↦{fullShare} f)
          ∗ bigSep (((ownRefs (τ := τ) (.scVector (cOf L) (sOf L))).erase ((Proc.scVector (cOf L) (sOf L)).devRef cc1_scratch0)).erase
              ((Proc.scVector (cOf L) (sOf L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cOf L) (sOf L))
    (b := (Proc.scVector (cOf L) (sOf L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cOf L) (sOf L)) (b := (Proc.scVector (cOf L) (sOf L)).devRef cc1_scratch1) rfl⟩)]

/-! ## The values -/

variable (ix : Buf (Elt F) (iLoc d)) (tb : Buf (Elt F) (xLoc d))

/-- The index scratch after the fetch: at each entry the list's word at the subcore's block. -/
theorem list_read (fs : Buf (Elt F) ((vt d L).loc cc1_scratch0)) (x : S32.Idx) :
    (lM).view.read (Elt F) (View.write (Elt F) (lM).view fs ((iSlice L).view.read (Elt F) ix) Finset.univ) x
      = ix ((iSlice L).view.emb x) := by
  rw [View.write_whole_univ]
  simp only [Memref.view_whole, View.read_whole]
  exact (View.read_apply _ _).trans (cast_eq _ _)

/-- Every word of a list that names table rows only does so on the subcore's block. -/
theorem list_inb (hix : ∀ j, (ix j).toNat < 1032) (fs : Buf (Elt F) ((vt d L).loc cc1_scratch0)) (pay : S32.Idx → Elt F .i32)
    (hpay : pay = (iSlice L).view.read (Elt F) ix) :
    ∀ x, ((lM).view.read (Elt F) (View.write (Elt F) (lM).view fs pay Finset.univ) x).toNat < S1032x128.size gathers_S1032x128_S32x128.axis := by
  subst hpay; intro x
  rw [list_read d L ix fs x]
  exact hix _

theorem xAll_read (x : S1032x128.Idx) : (xAll).view.read (Elt F) tb x = tb x := by
  refine (View.read_apply _ _).trans ((cast_eq _ _).trans (congrArg tb ?_))
  funext a
  refine Fin.ext ?_
  match a with
  | 0 => show 0 + 1 * (x 0).val = (x 0).val; omega
  | 1 => show 0 + 1 * (x 1).val = (x 1).val; omega

theorem tRow_congr {n n' : ℕ} (e : n = n') (h : n < 1032) (h' : n' < 1032) (l : Fin 128) : tRow n h l = tRow n' h' l := by
  subst e; rfl

/-- The source position the gather reads for an element of the row buffer. -/
theorem gather_src (r : Fin 32 → Fin 1032) (x : S32x128.Idx) :
    (gathers_S1032x128_S32x128).idx r x = tRow (r (x 0)).val (r (x 0)).isLt (x 1) := by
  funext a
  match a with
  | 0 => rfl
  | 1 => rfl

theorem iPos_emb (x : S32x128.Idx) (y : S32.Idx) (hy : (y 0).val = (x 0).val) :
    iPos ((oSlice L).view.emb x 0) = (iSlice L).view.emb y := by
  funext a
  match a with
  | 0 =>
    refine Fin.ext ?_
    show (k1_off2 L) 0 + 1 * (x 0).val = (k1_off1 L) 0 + 1 * (y 0).val
    rw [k1_off1_eq, k1_off2_eq, hy]; rfl

theorem lane_emb (x : S32x128.Idx) : (oSlice L).view.emb x 1 = x 1 := by
  refine Fin.ext ?_
  show (k1_off2 L) 1 + 1 * (x 1).val = (x 1).val
  rw [k1_off2_eq]; show 0 + 1 * (x 1).val = (x 1).val; omega

/-- What the write-out leaves on the subcore's block is the gathered table there. -/
theorem out_value (hix : ∀ j, (ix j).toNat < 1032) (fs : Buf (Elt F) ((vt d L).loc cc1_scratch0)) (fr : Buf (Elt F) ((vt d L).loc cc1_scratch1))
    (fo : Buf (Elt F) (oLoc d)) (pl : S32.Idx → Elt F .i32) (hpl : pl = (iSlice L).view.read (Elt F) ix)
    (hin : ∀ x, ((lM).view.read (Elt F) (View.write (Elt F) (lM).view fs pl Finset.univ) x).toNat < S1032x128.size gathers_S1032x128_S32x128.axis)
    (pay : S32x128.Idx → Elt F .f32)
    (hpay : pay = (rM).view.read (Elt F) ((rM).view.write (Elt F) fr (SparseCore.gatherPayload gathers_S1032x128_S32x128 ((xAll).view.read (Elt F) tb)
      (SparseCore.rows ((lM).view.read (Elt F) (View.write (Elt F) (lM).view fs pl Finset.univ)) rfl hin)) Finset.univ))
    (j : S1024x128.Idx) (hj : j ∈ (oSlice L).view.set) :
    (oSlice L).view.write (Elt F) fo pay Finset.univ j = gathered tb ix j := by
  obtain ⟨x, -, rfl⟩ := Finset.mem_map.mp hj
  refine (View.write_emb_of_mem _ _ (Finset.mem_univ x)).trans ?_
  subst hpay
  rw [View.write_whole_univ]
  simp only [Memref.view_whole, View.read_whole]
  refine (cast_eq _ _).trans ?_
  unfold SparseCore.gatherPayload
  rw [xAll_read d tb]
  subst hpl
  refine (congrArg tb (gather_src _ x)).trans ?_
  have hrow : ((lM).view.read (Elt F) (View.write (Elt F) (lM).view fs ((iSlice L).view.read (Elt F) ix) Finset.univ)
      (S32.rowMajor.symm ((x 0).cast rfl))) = ix (iPos ((oSlice L).view.emb x 0)) := by
    rw [list_read d L ix fs]
    refine congrArg ix (iPos_emb L x _ ?_).symm
    rw [← Shape.rowMajor_val_one, Equiv.apply_symm_apply]; rfl
  unfold gathered
  rw [dif_pos (hix _), lane_emb]
  exact congrArg tb (tRow_congr (congrArg BitVec.toNat hrow) _ _ _)

end Subcore

end Cert.Proof.VQ

end
-- ==== Proof.TileRun.lean ====
/-
  The run of one vector subcore's task: the index fetch, the indirect gather, the write-out, each with its wait.
-/
module

public import proofs.«01_k».proof.Proof.Tile

@[expose] public section

set_option maxRecDepth 16384

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Subcore

variable (d : Dev nD) (L : grid1.Coords)

variable [FloatOps F]

set_option maxHeartbeats 4000000 in
/-- The task on the subcore at `L`: from its part of the three arrays (every index word naming a table row), the part
    comes back with the gathered rows in its block of the output; its scratch and semaphores as they were, nothing owed. -/
theorem tile_body (hF : (K (F := F)).Facts) (ix : Buf (Elt F) (iLoc d)) (tb : Buf (Elt F) (xLoc d)) (fo : Buf (Elt F) (oLoc d))
    (hix : ∀ j, (ix j).toNat < 1032) (O : CellTallies nD τ sig (HIx 1)) (W : Waits sig (HIx 1)) (hO : ∀ g, O g none = 0) :
    iprop(levAts (K (F := F)).L (K (F := F)).lev ∗ emp
        ∗ part d ix tb fo (wOf L)
        ∗ scopedBufs (vt d L) ∗ scopedSems0 (vt d L) ∗ owes (vt d L) O W)
      ⊢ wp frame (wpE (defs₀ (F := F)) 𝒱₀ (vt d L) none) Set.univ
          (cc1__sc_body L xM (Memref.isWhole_whole _) iM (Memref.isWhole_whole _) oM (Memref.isWhole_whole _)
            lM (Memref.isWhole_whole _) rM (Memref.isWhole_whole _) cc1_scratch2 cc1_scratch3 cc1_scoped0)
          fun _ => iprop(part d ix tb (gathered tb ix) (wOf L)
            ∗ scopedBufs (vt d L) ∗ scopedSems0 (vt d L)
            ∗ ∃ W', ⌜∀ p ∈ W', p ∈ W ∨ p.2 = none⌝ ∗ owes (vt d L) O W') := by
  simp only [cc1__sc_body_eq_skeleton]; unfold cc1__sc_body_skel part
  rw [(K (F := F)).scopedBufs_V hF d (cOf L) (sOf L), SparseCore.Cfg.scopedSems0_V (Val := Elt F) d (cOf L) (sOf L), sems_eq, bufs_eq]
  iintro ⟨#Hlv, -, ⟨Hi, Hx, Ho⟩, ⟨⟨%fs, Hs⟩, ⟨%fr, Hr⟩, Hbufs⟩, ⟨HsemI, HsemG, HsemO, Hsems⟩, HO⟩
  ihave Hmw := (show levAts (K (F := F)).L (K (F := F)).lev ⊢ Transfers.MayWaits (vt d L) (default : HIx 1) O from
    (K (F := F)).mayWaits_none (thr := vt d L) hO) $$ Hlv
  ihave Hi' := (Entails.of_eq (pts_i (F := F) d L _).symm) $$ Hi
  ihave Ho' := (Entails.of_eq (pts_o (F := F) d L _).symm) $$ Ho
  ihave Hx' := (Entails.of_eq (pts_x (F := F) d L _ _).symm) $$ Hx
  ihave Hs' := (Entails.of_eq (pts_l (F := F) d L _).symm) $$ Hs
  ihave Hr' := (Entails.of_eq (pts_r (F := F) d L _).symm) $$ Hr
  sl_exec
  have hin := list_inb d L ix hix fs (tile_body.sl.dma0 d L ix) rfl
  sl_exec
  sl_step
  isplitl [Hi' Hx' Ho']
  · isplitl [Hi']; · iapply (Entails.of_eq (pts_i (F := F) d L _)); iexact Hi'
    isplitl [Hx']; · iexact Hx'
    iapply (Entails.of_eq (pts_o (F := F) d L _))
    iapply (Entails.of_eq (pointsTo_congr (ℓ := (oSlice L).view.loc (vt d L)) (q := fullShare) (I := (oSlice L).view.set) fun j hj =>
      (congrFun (View.write_univ_eq_writes_whole (oSlice L).view fo [] (tile_body.sl.dma0_1 d L ix tb fs fr hin)).symm j).trans
        (out_value d L ix tb hix fs fr fo _ rfl hin _ (by
          unfold tile_body.sl.dma0_1
          exact (congrArg ((rM).view.read (Elt F)) (View.write_univ_eq_writes_whole (rM).view fr [] _)).symm) j hj)))
    iexact Ho'
  isplitl [Hs' Hr' Hbufs]
  · isplitl [Hs']; · iexists _; iexact Hs'
    isplitl [Hr']; · iexists _; iexact Hr'
    iexact Hbufs
  isplitl [HsemI HsemG HsemO Hsems]
  · isplitl [HsemI]; · iexact HsemI
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Subcore

end Cert.Proof.VQ

end
-- ==== Proof.Region.lean ====
/-
  The TensorCore kernel inside @main: its one grid point's run with the value it leaves, and the region as @main enters it.
-/
module

public import proofs.«01_k».proof.Proof.Base
public import Idealize.ShloMosaic.Lib.LaneScatter.Tiles

@[expose] public section

set_option maxRecDepth 16384

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The kernel body -/

/-- The index list the TensorCore kernel computes from the rows `z` and the codebook `cb`. -/
def codes [FloatOps F] (z cb : Vec F S1024x64 .f32) : IVec S1024x1 32 :=
  k0_pay9 (k0_pay1 z) (k0_pay2 cb) (k0_pay4 cb) (k0_pay5 cb) (k0_pay6 z cb) (iota .tc S1024x1024 32 [1] iota_S1024x1024_d1_w32)
    (k0_pay7 z cb) (k0_pay8 z cb)

abbrev zM : Memref sig .tc .vmem S1024x64 .f32 := Memref.whole cc0_stg0_0
abbrev cM : Memref sig .tc .vmem S1024x64 .f32 := Memref.whole cc0_stg1_0
abbrev nM : Memref sig .tc .vmem S1024x1 .i32 := Memref.whole cc0_stg2_0

section Body
variable [FloatOps F]

set_option maxHeartbeats 4000000 in
/-- The body run: the two staged operands kept, the staged result overwritten; what it holds then is found by the run. -/
def tcBodyRun (d : Dev nD) (i : grid0.Coords) (M0 : Memref sig .tc .vmem S1024x64 .f32) (h0 : M0.IsWhole)
    (M1 : Memref sig .tc .vmem S1024x64 .f32) (h1 : M1.IsWhole) (M2 : Memref sig .tc .vmem S1024x1 .i32) (h2 : M2.IsWhole)
    (f0 : Buf (Elt F) (M0.view.loc (d.tc : Thread nD τ))) (f1 : Buf (Elt F) (M1.view.loc (d.tc : Thread nD τ))) :
    { pay : Buf (Elt F) (M2.view.loc (d.tc : Thread nD τ)) //
      ∀ (f2 : Buf (Elt F) (M2.view.loc (d.tc : Thread nD τ))) (Q : PUnit → sProp 𝕄),
        iprop((M0.view.loc (d.tc : Thread nD τ) ↦{fullShare} f0) ∗ (M1.view.loc (d.tc : Thread nD τ) ↦{fullShare} f1)
            ∗ (M2.view.loc (d.tc : Thread nD τ) ↦{fullShare} f2)
            ∗ (iprop((M0.view.loc (d.tc : Thread nD τ) ↦{fullShare} f0) ∗ (M1.view.loc (d.tc : Thread nD τ) ↦{fullShare} f1)
                ∗ (M2.view.loc (d.tc : Thread nD τ) ↦{fullShare} pay)) -∗ Q ⟨⟩))
          ⊢ wp frame (wpE (defs₀ (F := F)) 𝒱₀ (d.tc : Thread nD τ) none) Set.univ (cc0__tc_body (F := F) i M0 h0 M1 h1 M2 h2) Q } := by
  refine ⟨?_, fun f2 Q => ?run⟩
  case run =>
    iintro ⟨H0, H1, H2, Hk⟩
    simp only [cc0__tc_body_eq_skeleton]; unfold cc0__tc_body_skel
    simp only [k0_part1_eq_skeleton, k0_part2_eq_skeleton]; unfold k0_part1_skel k0_part2_skel
    sl_exec!
    sl_step
    iapply Hk
    isplitl [H0]; · iexact H0
    isplitl [H1]; · iexact H1
    iexact H2

omit [FloatOps F] in
/-- One store of a whole buffer leaves its payload. -/
theorem whole_store (b : Ref sig .tc) (f : b.ty.Contents (Elt F)) {off : Fin b.ty.shape.rank → ℕ} (h : ∀ a, off a = 0)
    (inb : ∀ a, off a + b.ty.shape.size a ≤ b.ty.shape.size a) (w : b.ty.Contents (Elt F)) :
    (View.whole b).writes (Elt F) f [⟨Rect.unit off b.ty.shape.size inb, w⟩] = w :=
  (View.read_whole b _).symm.trans (LaneScatter.read_whole_store (Val := Elt F) (View.whole b) f h inb w)

/-- What the run leaves in the staged result is the index list. -/
theorem tcBodyRun_val (d : Dev nD) (i : grid0.Coords) (f0 : Buf (Elt F) ((zM).view.loc (d.tc : Thread nD τ)))
    (f1 : Buf (Elt F) ((cM).view.loc (d.tc : Thread nD τ))) :
    (tcBodyRun d i zM (Memref.isWhole_whole _) cM (Memref.isWhole_whole _) nM (Memref.isWhole_whole _) f0 f1).1 = codes f0 f1 := by
  unfold tcBodyRun
  dsimp only
  have hz : (![0, 0] : Fin 2 → ℕ) = fun _ => 0 := funext fun a => by fin_cases a <;> rfl
  have r0 : View.readAt (Elt F) (zM).view (Rect.unit ![0, 0] S1024x64.size inb_S1024x64_S1024x64_0_0).toLoadRect f0 = f0 :=
    Memref.readAt_unit_zero (Elt F) cc0_stg0_0 hz _ f0
  have r1 : View.readAt (Elt F) (cM).view (Rect.unit ![0, 0] S1024x64.size inb_S1024x64_S1024x64_0_0).toLoadRect f1 = f1 :=
    Memref.readAt_unit_zero (Elt F) cc0_stg1_0 hz _ f1
  unfold tcBodyRun.sl.H2_1
  unfold tcBodyRun.sl.v36
  rw [r0, r1]
  dsimp only
  have ho : ∀ a : Fin 2, (![0, 0] : Fin 2 → ℕ) a = 0 := fun a => congrFun hz a
  refine (whole_store (F := F) cc0_stg2_0 _ ho inb_S1024x1_S1024x1_0_0 _).trans ?_
  unfold codes
  rfl

/-! ## The region's proof data -/

variable (a0 a1 : Dev nD → Vec F S1024x64 .f32) (a2 : Dev nD → IVec S1024x1 32)

/-- The proof data: the three arrays at their contents on entry; after the body the operands as fetched and the result's block
    the index list; the core owing the SparseCore call's start throughout, its recorded waits at level zero. -/
def dat0 (c : Dev nD) : Pipeline.Dat τ (Elt F) (HIx 1) ℕ UU ℕ cfg0 c where
  A w := match w with
    | ⟨0, _⟩ => a0 c
    | ⟨1, _⟩ => a1 c
    | ⟨2, _⟩ => a2 c
  after w _ := match w with
    | ⟨0, _⟩ => a0 c
    | ⟨1, _⟩ => a1 c
    | ⟨2, _⟩ => codes (a0 c) (a1 c)
  Φ _ := iprop(emp)
  q _ := fullShare
  owed _ := (K (F := F)).Otc c 0
  recorded _ := {p | (K (F := F)).lev ((c.tc : Thread nD τ), p.1) p.2 ≤ 0}

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat0 a0 a1 a2

/-- A window's block is its whole array: the block places an index where it is. -/
theorem emb0 (y : ((cfg0.win 0).xblock (cfg0.grid.coords t0_0)).Idx) : ((cfg0.win 0).blk t0_0).view.emb y = y := by
  blk_ext [show ∀ t : Fin cfg0.N, win0_0.index t = ![0, 0] from (by decide +kernel : ∀ t : Fin grid0.N, win0_0.index t = ![0, 0])]
theorem emb1 (y : ((cfg0.win 1).xblock (cfg0.grid.coords t0_0)).Idx) : ((cfg0.win 1).blk t0_0).view.emb y = y := by
  blk_ext [show ∀ t : Fin cfg0.N, win0_1.index t = ![0, 0] from (by decide +kernel : ∀ t : Fin grid0.N, win0_1.index t = ![0, 0])]
theorem emb2 (y : ((cfg0.win 2).xblock (cfg0.grid.coords t0_0)).Idx) : ((cfg0.win 2).blk t0_0).view.emb y = y := by
  blk_ext [show ∀ t : Fin cfg0.N, win0_2.index t = ![0, 0] from (by decide +kernel : ∀ t : Fin grid0.N, win0_2.index t = ![0, 0])]

theorem before0 (c : Dev nD) (d : (cfg0.win 0).block.Idx → Elt F (cfg0.win 0).elt) : (dat0 a0 a1 a2 c).before 0 t0_0 d = a0 c := by
  unfold Pipeline.Dat.before; rw [if_pos (by decide)]
  exact (show _ = ((cfg0.win 0).blk t0_0).view.read (Elt F) (a0 c) from rfl).trans (funext fun y => congrArg (a0 c) (emb0 y))
theorem before1 (c : Dev nD) (d : (cfg0.win 1).block.Idx → Elt F (cfg0.win 1).elt) : (dat0 a0 a1 a2 c).before 1 t0_0 d = a1 c := by
  unfold Pipeline.Dat.before; rw [if_pos (by decide)]
  exact (show _ = ((cfg0.win 1).blk t0_0).view.read (Elt F) (a1 c) from rfl).trans (funext fun y => congrArg (a1 c) (emb1 y))

omit [FloatOps F] in
theorem owns_whole (c : Dev nD) (b : Ref sig .tc) (X : b.ty.Contents (Elt F)) :
    (owns (Ix := HIx 1) (Name := ℕ) (U := UU) (Lvl := ℕ) (c.tc : Thread nD τ) (Memref.whole b) fullShare X : sProp 𝕄)
      = iprop(∃ f : Buf (Elt F) ((c.tc : Thread nD τ).loc b), ⌜f = X⌝ ∗ (((c.tc : Thread nD τ).loc b) ↦{fullShare} f)) := by
  unfold owns; simp only [Memref.view_whole, View.read_whole, View.set_whole]

theorem own0 (c : Dev nD) (X : Vec F S1024x64 .f32) :
    (owns (Ix := HIx 1) (Name := ℕ) (U := UU) (Lvl := ℕ) (c.tc : Thread nD τ) (stage0_0 (cfg0.slots t0_0 0)) fullShare X : sProp 𝕄)
      = iprop(∃ f : Buf (Elt F) ((c.tc : Thread nD τ).loc cc0_stg0_0), ⌜f = X⌝ ∗ (((c.tc : Thread nD τ).loc cc0_stg0_0) ↦{fullShare} f)) :=
  owns_whole c cc0_stg0_0 X
theorem own1 (c : Dev nD) (X : Vec F S1024x64 .f32) :
    (owns (Ix := HIx 1) (Name := ℕ) (U := UU) (Lvl := ℕ) (c.tc : Thread nD τ) (stage0_1 (cfg0.slots t0_0 1)) fullShare X : sProp 𝕄)
      = iprop(∃ f : Buf (Elt F) ((c.tc : Thread nD τ).loc cc0_stg1_0), ⌜f = X⌝ ∗ (((c.tc : Thread nD τ).loc cc0_stg1_0) ↦{fullShare} f)) :=
  owns_whole c cc0_stg1_0 X
theorem own2 (c : Dev nD) (X : IVec S1024x1 32) :
    (owns (Val := Elt F) (Ix := HIx 1) (Name := ℕ) (U := UU) (Lvl := ℕ) (c.tc : Thread nD τ) (stage0_2 (cfg0.slots t0_0 2)) fullShare X : sProp 𝕄)
      = iprop(∃ f : Buf (Elt F) ((c.tc : Thread nD τ).loc cc0_stg2_0), ⌜f = X⌝ ∗ (((c.tc : Thread nD τ).loc cc0_stg2_0) ↦{fullShare} f)) :=
  owns_whole c cc0_stg2_0 X

/-- The body obligation: the staging buffers taken apart, the body's run applied. -/
theorem body_obligation (c : Dev nD) : Pipeline.BodyObligation (dat0 (F := F) a0 a1 a2 c) (defs₀ (F := F)) 𝒱₀ none Set.univ := fun t => by
  obtain rfl := fin_N0 t
  rw [bigSep_W0, bigSep_W0]
  simp only [own0, own1, own2]
  rw [show (dat0 a0 a1 a2 c).Φ t0_0.castSucc = iprop(emp) from rfl, show (dat0 a0 a1 a2 c).Φ t0_0.succ = iprop(emp) from rfl,
    show (dat0 a0 a1 a2 c).owesAt none t0_0.succ = (dat0 a0 a1 a2 c).owesAt none t0_0.castSucc from rfl]
  iintro ⟨-, HO, ⟨%d0, %f0, %hf0, H0⟩, ⟨%d1, %f1, %hf1, H1⟩, ⟨%d2, %f2, %hf2, H2⟩⟩
  rw [before0] at hf0
  rw [before1] at hf1
  subst hf0
  subst hf1
  iapply ((tcBodyRun c (grid0.coords t0_0) zM (Memref.isWhole_whole _) cM (Memref.isWhole_whole _) nM (Memref.isWhole_whole _) (a0 c) (a1 c)).2 f2 _)
  isplitl [H0]; · iexact H0
  isplitl [H1]; · iexact H1
  isplitl [H2]; · iexact H2
  iintro ⟨H0, H1, H2⟩
  rw [tcBodyRun_val]
  isplitr; · iempintro
  isplitl [HO]; · iexact HO
  isplitl [H0]
  · iexists _; isplitr; swap; (· iexact H0); ipureintro; rfl
  isplitl [H1]
  · iexists _; isplitr; swap; (· iexact H1); ipureintro; rfl
  iexists _; isplitr; swap; (· iexact H2); ipureintro; rfl

/-! ## What the arrays hold after it -/

theorem arrAt0 (c : Dev nD) (n : ℕ) : (dat0 (F := F) a0 a1 a2 c).arrAt 0 n = a0 c := (dat0 (F := F) a0 a1 a2 c).arrAt_in 0 rfl _
theorem arrAt1 (c : Dev nD) (n : ℕ) : (dat0 (F := F) a0 a1 a2 c).arrAt 1 n = a1 c := (dat0 (F := F) a0 a1 a2 c).arrAt_in 1 rfl _
theorem arrAt2 (c : Dev nD) : (dat0 (F := F) a0 a1 a2 c).arrAt 2 cfg0.N = codes (a0 c) (a1 c) := by
  refine (dat0 (F := F) a0 a1 a2 c).arrAt_eq_of_covers 2 (codes (a0 c) (a1 c)) (by decide +kernel) fun t hf y => ?_
  obtain rfl := fin_N0 t
  exact congrArg (codes (a0 c) (a1 c)) (emb2 y).symm

/-- A buffer of the TensorCore at the full share. -/
abbrev pl (c : Dev nD) (b : Ref sig .tc) (f : b.ty.Contents (Elt F)) : sProp 𝕄 := ((c.tc : Thread nD τ).loc b) ↦{fullShare} f

/-- The region's arrays at contents `Fa` are the three buffers held. -/
theorem arrays_eq (c : Dev nD) (Fa) :
    ((pdats (F := F) a0 a1 a2 0 c).arrays Fa : sProp 𝕄) = iprop(pl c main_v0 (Fa 0) ∗ pl c main_arg1 (Fa 1) ∗ pl c main_v1 (Fa 2)) := by
  rw [Pipeline.arrays_eq (Pipeline.pin (pcfgs (F := F)) adm) (pdats a0 a1 a2) 0 c launch0.arr_whole
    ((pdats a0 a1 a2 0 c).share_full fun _ => rfl) Fa, bigSep_W0]

/-- The core owes nothing at the index of the pipeline's waits. -/
theorem Otc_none (d : Dev nD) (g : GSem nD τ sig) : (K (F := F)).Otc (N := 1) d 0 g none = 0 := by
  refine Classical.byContradiction fun h => ?_
  have := (K (F := F)).lev_of_Otc_pos (Nat.pos_of_ne_zero h)
  rw [(K (F := F)).lev_none] at this
  omega

/-- What the core owes around the region: the SparseCore call's start, its recorded waits at level zero. -/
abbrev tcOwes (c : Dev nD) : sProp 𝕄 := iprop(∃ W, ⌜(K (F := F)).WBelow (T c) W 0⌝ ∗ owes (T c) ((K (F := F)).Otc c 0) W)

/-- The region: the three arrays in, the index list written, everything else of the core's state around it. -/
def reg : Pipeline.RegionSeg (pcfgs (F := F)) adm (pdats a0 a1 a2) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation a0 a1 a2 c).loose
  hwaits c := Pipeline.cellsWaits_intro (Pipeline.pin (pcfgs (F := F)) adm) (pdats a0 a1 a2) none 0 c fun w s t =>
    (K (F := F)).mayWait_none _ (Otc_none c) (K (F := F)).lev
  pre c := iprop((pl c main_v0 (a0 c) ∗ pl c main_arg1 (a1 c) ∗ pl c main_v1 (a2 c)) ∗ tcOwes c)
  post c := iprop((pl c main_v0 (a0 c) ∗ pl c main_arg1 (a1 c) ∗ pl c main_v1 (codes (a0 c) (a1 c))) ∗ tcOwes c)
  X _ := iprop(emp)
  Y _ := iprop(emp)
  Z _ := iprop(emp)
  hentry c := by
    rw [Pipeline.ownSems0_none, arrays_eq]
    iintro ⟨⟨⟨H0, H1, H2⟩, ⟨%W, %hW, HO⟩⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest0_eq]
    iintro -; isplitr; · iempintro
    isplitr <;> iempintro
  hexit c := by
    rw [arrays_eq]
    rw [show (pdats (F := F) a0 a1 a2 0 c).arrAt 0 (Pipeline.pin (pcfgs (F := F)) adm 0).N = a0 c from arrAt0 a0 a1 a2 c _,
      show (pdats (F := F) a0 a1 a2 0 c).arrAt 1 (Pipeline.pin (pcfgs (F := F)) adm 0).N = a1 c from arrAt1 a0 a1 a2 c _,
      show (pdats (F := F) a0 a1 a2 0 c).arrAt 2 (Pipeline.pin (pcfgs (F := F)) adm 0).N = codes (a0 c) (a1 c) from arrAt2 a0 a1 a2 c]
    iintro ⟨Ha, HO, -, -⟩
    imodintro
    isplitl [Ha]; · iexact Ha
    unfold Pipeline.Dat.owesAt Pipeline.owesWithin
    icases HO with ⟨%W, %hW, HO⟩
    iexists W
    isplitr; swap; · iexact HO
    ipureintro
    intro p hp
    rcases hW hp with h | ⟨w, s, rfl⟩
    · exact h
    · exact le_of_eq ((K (F := F)).lev_none _)

end Body

end Cert.Proof.VQ

end
-- ==== Proof.Launch.lean ====
/-
  What the one SparseCore call carries, as functions of the launch memory: the index list that the TensorCore kernel leaves,
  the table, the gathered rows; the tasks' obligation, and how a SparseCore's operands are its sixteen tasks'.
-/
module

public import proofs.«01_k».proof.Proof.TileRun
public import proofs.«01_k».proof.Proof.Region

@[expose] public section

set_option maxRecDepth 16384

noncomputable section

namespace Cert.Proof.VQ

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values along @main -/

/-- The input's rows, the codebook, the index list as a column and as a list, the padded table, the gathered rows. -/
def zRows (d : Dev nD) : Vec F S1024x64 .f32 :=
  shapeCast S1024x64 (m ((SparseCore.T d).loc main_arg0) : Vec F S4x256x64 .f32) shapeCasts_S4x256x64_S1024x64
def book (d : Dev nD) : Vec F S1024x64 .f32 := m ((SparseCore.T d).loc main_arg1)
def codeCol (d : Dev nD) : IVec S1024x1 32 := codes (zRows m d) (book m d)
def codeList (d : Dev nD) : Buf (Elt F) (iLoc d) := shapeCast S1024 (codeCol m d) shapeCasts_S1024x1_S1024
def padded (d : Dev nD) : Buf (Elt F) (xLoc d) :=
  (pad S1032x128 ![0, 0] ![8, 64] ![0, 0] (book m d) (sitofp (F := F) .f32 (constantI S_ 32 0#32)) pads_S1024x64_S1032x128_080_0640 h_S_ : Vec F S1032x128 .f32)
def rows (d : Dev nD) : Buf (Elt F) (oLoc d) := gathered (padded m d) (codeList m d)

/-! ## What the call carries -/

/-- A part of the call's three arrays before the task, and after it. -/
abbrev before (d : Dev nD) (w : Fin 32) : sProp 𝕄 := part d (codeList m d) (padded m d) (m (oLoc d)) w
abbrev after (d : Dev nD) (w : Fin 32) : sProp 𝕄 := part d (codeList m d) (padded m d) (rows m d) w

/-- A SparseCore takes and brings back its sixteen tasks' parts. -/
def P : (K (F := F)).Pay (nD := nD) (Val := Elt F) (Name := ℕ) (U := UU) where
  st := fun q d c => match q with | 0 => bigSep Finset.univ fun s : Fin 16 => before m d (wid (Fin.cast nCore_zero c) s)
  dn := fun q d c => match q with | 0 => bigSep Finset.univ fun s : Fin 16 => after m d (wid (Fin.cast nCore_zero c) s)
  go := fun q d c i => match q with | 0 => before m d (wid (Fin.cast nCore_zero c) (Fin.cast nSub_zero i))
  td := fun q d c i => match q with | 0 => after m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => before m d (wid (Fin.cast nCore_zero c) s)))
  dn q d c := match q with
    | 0 => (inferInstance : BI.Storable (upEmb : UEmb _ 𝕄) (bigSep Finset.univ fun s : Fin 16 => after m d (wid (Fin.cast nCore_zero c) s)))
  go q d c i := match q with
    | 0 => (inferInstance : BI.Storable (upEmb : UEmb _ 𝕄) (before m d (wid (Fin.cast nCore_zero c) (Fin.cast nSub_zero i))))
  td q d c i := match q with
    | 0 => (inferInstance : BI.Storable (upEmb : UEmb _ 𝕄) (after m d (wid (Fin.cast nCore_zero c) (Fin.cast nSub_zero i))))

/-! ## The tasks' obligation -/

def gridAt (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__sc_body (gridAt c s) xM (Memref.isWhole_whole _) iM (Memref.isWhole_whole _)
          oM (Memref.isWhole_whole _) lM (Memref.isWhole_whole _) rM (Memref.isWhole_whole _) cc1_scratch2 cc1_scratch3 cc1_scoped0) ⟨⟩ c s := rfl

omit [FloatOps F] in
/-- A task's waits at the kernel's own index are among those that the obligation allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; swap; · iexact HO
  ipureintro; exact fun p hp => (hW' p hp).imp_right Or.inl

theorem codeList_lt (hr : ∀ (z cb : Vec F S1024x64 .f32) j, (codes z cb j).toNat < 1032) (d : Dev nD) (j : S1024.Idx) :
    ((codeList m d : S1024.Idx → BitVec 32) j).toNat < 1032 := hr _ _ _

/-- A worker's number from its task's SparseCore and subcore. -/
theorem wid_wOf (c : Fin (grid1.bound 0)) (s : Fin (grid1.bound 1)) : wOf (gridAt c s) = wid c s := rfl

theorem tileObl (hr : ∀ (z cb : Vec F S1024x64 .f32) j, (codes z cb j).toNat < 1032) :
    (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (gridAt ⟨_, hci.1⟩ ⟨_, hci.2⟩) scFacts (codeList m d) (padded m d) (m (oLoc d)) (codeList_lt m hr d) O W hO).trans
    (wp_mono frame _ _ fun _ => waits_weaken)

/-! ## A SparseCore's operands are its tasks' -/

omit [FloatOps F] in
theorem over_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => before m d (wid (Fin.cast nCore_zero c) s)) ⊢ |={Set.univ}=> iprop(
      (bigSep Finset.univ fun i : Fin ((K (F := F)).nSub 0) => before m d (wid (Fin.cast nCore_zero c) (Fin.cast nSub_zero i)))
      ∗ ((bigSep Finset.univ fun i : Fin ((K (F := F)).nSub 0) => after m d (wid (Fin.cast nCore_zero c) (Fin.cast nSub_zero i)))
          -∗ bigSep Finset.univ fun s : Fin 16 => after m d (wid (Fin.cast nCore_zero c) s)))
  rw [over_tasks (F := F) (fun s => before m d (wid (Fin.cast nCore_zero c) s)),
    over_tasks (F := F) (fun s => after m d (wid (Fin.cast nCore_zero c) s))]
  iintro H; imodintro
  isplitl [H]; · iexact H
  iintro H; iexact H

theorem st_eq (d : Dev nD) : (bigSep Finset.univ fun c : Fin ((K (F := F)).nCore 0) => (P m).st 0 d c)
    = bigSep Finset.univ fun c : Fin 2 => bigSep Finset.univ fun s : Fin 16 => before m d (wid c s) :=
  over_cores (F := F) fun c => bigSep Finset.univ fun s : Fin 16 => before m d (wid c s)
theorem dn_eq (d : Dev nD) : (bigSep Finset.univ fun c : Fin ((K (F := F)).nCore 0) => (P m).dn 0 d c)
    = bigSep Finset.univ fun c : Fin 2 => bigSep Finset.univ fun s : Fin 16 => after m d (wid c s) :=
  over_cores (F := F) fun c => bigSep Finset.univ fun s : Fin 16 => after m d (wid c s)

/-! ## The launch's ghost state -/

/-- The handshakes' rounds and the TensorCore pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a device's TensorCore starts with of it: its pipeline's. -/
abbrev Gh (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · rw [show (bigSep Finset.univ fun d : Dev nD => Gh (F := F) d)
        = iprop((bigSep Finset.univ fun d : Dev nD => Pipeline.cellsGhost (Pipeline.pin (pcfgs (F := F)) adm) (EP (F := F)) 0 d)
          ∗ (bigSep Finset.univ fun d : Dev nD => Pipeline.toksInit (Pipeline.pin (pcfgs (F := F)) adm) (EP (F := F)) 0 d)) from bigSep_sep _ _ _]
    isplitl [Hg]
    · ihave H := (Entails.of_eq (show (bigSep Finset.univ fun d : Dev nD => bigSep Finset.univ fun p : Fin 1 =>
          Pipeline.cellsGhost (Pipeline.pin (pcfgs (F := F)) adm) (EP (F := F)) p d)
        = bigSep Finset.univ fun d : Dev nD => Pipeline.cellsGhost (Pipeline.pin (pcfgs (F := F)) adm) (EP (F := F)) 0 d from
          bigSep_congr fun d _ => bigSep_univ_of_subsingleton (0 : Fin 1))) $$ Hg
      iexact H
    · ihave H := (Entails.of_eq (show (bigSep Finset.univ fun d : Dev nD => bigSep Finset.univ fun p : Fin 1 =>
          Pipeline.toksInit (Pipeline.pin (pcfgs (F := F)) adm) (EP (F := F)) p d)
        = bigSep Finset.univ fun d : Dev nD => Pipeline.toksInit (Pipeline.pin (pcfgs (F := F)) adm) (EP (F := F)) 0 d from
          bigSep_congr fun d _ => bigSep_univ_of_subsingleton (0 : Fin 1))) $$ Ht
      iexact H
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep (Finset.univ : Finset (Thread nD τ)) fun _ => (iprop(emp) : sProp 𝕄)) = iprop(emp) from bigSep_emp_const _]
  iempintro

end Cert.Proof.VQ

end
-- ==== Proof.Main.lean ====
/-
  @main on the TensorCore: its host operations, the TensorCore kernel's region and the SparseCore call, from the launch
  memory to the two results; and the program's run.
-/
module

public import proofs.«01_k».proof.Proof.Launch
public import Idealize.ShloMosaic.Lib.StableHlo.Run

@[expose] public section

set_option maxRecDepth 16384

noncomputable section

namespace Cert.Proof.VQ

open Cert.KernelIdeal Cert.KernelIdeal.Gen

open Idealize.ShloMosaic
open Idealize.ShloMosaic.SparseCore (S V T)
open Idealize.ShloMosaic.SparseCore.Cfg (HIx Pay)
open Idealize.ShloMosaic.StableHlo (held held_sub_split wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers and the operations -/

abbrev dv (r : Ref sig .tc) : DevRef τ sig := Proc.devRef .tc r

/-- @main's twelve arrays. -/
abbrev All : Finset (DevRef τ sig) :=
  {dv main_arg0, dv main_arg1, dv main_v0, dv main_v1, dv main_c, dv main_call0_v0, dv main_v2, dv main_v3, dv main_v4, dv main_v5,
    dv main_v6, dv main_v7}
/-- The region's three, the call's three, and those that the claims read. -/
abbrev RegS : Finset (DevRef τ sig) := {dv main_v0, dv main_arg1, dv main_v1}
abbrev CallS : Finset (DevRef τ sig) := {dv main_v3, dv main_v2, dv main_v4}
abbrev FinS : Finset (DevRef τ sig) := {dv main_arg0, dv main_arg1, dv main_v6, dv main_v7}

abbrev opZ : HloOp τ sig (Elt F) := StableHlo.reshape main_arg0 main_v0 (rfl : (.f32 : EltTy) = .f32) shapeCasts_S4x256x64_S1024x64
abbrev opC : HloOp τ sig (Elt F) := StableHlo.nullary main_c (constantI S_ 32 0#32)
abbrev opCv : HloOp τ sig (Elt F) := StableHlo.TRef.unary (.of main_c : StableHlo.TRef sig ⟨S_, .i32⟩) main_call0.v0 (sitofp .f32)
abbrev opPad : HloOp τ sig (Elt F) := StableHlo.TRef.binary (.of main_arg1 : StableHlo.TRef sig ⟨S1024x64, .f32⟩) main_call0.v0 main_call0.v1
  (fun x v => pad S1032x128 ![0, 0] ![8, 64] ![0, 0] x v pads_S1024x64_S1032x128_080_0640 h_S_)
abbrev opIx : HloOp τ sig (Elt F) := StableHlo.reshape main_v1 main_v3 (rfl : (.i32 : EltTy) = .i32) shapeCasts_S1024x1_S1024
abbrev opSl : HloOp τ sig (Elt F) := StableHlo.unary main_v4 main_v5
  ((extractStridedSlice S1024x64 ![0, 0] · slices_S1024x128_S1024x64_0_0) : (⟨S1024x128, .f32⟩ : BufTy).Contents (Elt F) → (⟨S1024x64, .f32⟩ : BufTy).Contents (Elt F))
abbrev opR6 : HloOp τ sig (Elt F) := StableHlo.reshape main_v5 main_v6 (rfl : (.f32 : EltTy) = .f32) shapeCasts_S1024x64_S4x256x64
abbrev opR7 : HloOp τ sig (Elt F) := StableHlo.reshape main_v1 main_v7 (rfl : (.i32 : EltTy) = .i32) shapeCasts_S1024x1_S4x256

theorem hZ : (opZ (F := F)).bufs ⊆ All := show ({dv main_arg0, dv main_v0} : Finset (DevRef τ sig)) ⊆ All by decide
theorem hC : (opC (F := F)).bufs ⊆ All := show ({dv main_c} : Finset (DevRef τ sig)) ⊆ All by decide
theorem hCv : (opCv (F := F)).bufs ⊆ All := show ({dv main_c, dv main_call0_v0} : Finset (DevRef τ sig)) ⊆ All by decide
theorem hPad : (opPad (F := F)).bufs ⊆ All := show ({dv main_arg1, dv main_call0_v0, dv main_v2} : Finset (DevRef τ sig)) ⊆ All by decide
theorem hIx : (opIx (F := F)).bufs ⊆ All := show ({dv main_v1, dv main_v3} : Finset (DevRef τ sig)) ⊆ All by decide
theorem hSl : (opSl (F := F)).bufs ⊆ All := show ({dv main_v4, dv main_v5} : Finset (DevRef τ sig)) ⊆ All by decide
theorem hR6 : (opR6 (F := F)).bufs ⊆ All := show ({dv main_v5, dv main_v6} : Finset (DevRef τ sig)) ⊆ All by decide
theorem hR7 : (opR7 (F := F)).bufs ⊆ All := show ({dv main_v1, dv main_v7} : Finset (DevRef τ sig)) ⊆ All by decide

/-! ## The valuations along @main -/

def V0 (d : Dev nD) : Valuation τ sig (Elt F) := fun b => m (d, b)
def VA (d : Dev nD) : Valuation τ sig (Elt F) := (opZ (F := F)).result (V0 m d)
/-- After the region: the column of indices. -/
def VB (d : Dev nD) : Valuation τ sig (Elt F) := Function.update (VA m d) (dv main_v1) (codeCol m d)
def VC (d : Dev nD) : Valuation τ sig (Elt F) :=
  (opIx (F := F)).result ((opPad (F := F)).result ((opCv (F := F)).result ((opC (F := F)).result (VB m d))))
/-- After the call: the gathered rows. -/
def VD (d : Dev nD) : Valuation τ sig (Elt F) := Function.update (VC m d) (dv main_v4) (rows m d)
def VE (d : Dev nD) : Valuation τ sig (Elt F) := (opR7 (F := F)).result ((opR6 (F := F)).result ((opSl (F := F)).result (VD m d)))

/-- The two results. -/
def quantized (d : Dev nD) : Vec F S4x256x64 .f32 :=
  shapeCast S4x256x64 (extractStridedSlice S1024x64 ![0, 0] (rows m d : Vec F S1024x128 .f32) slices_S1024x128_S1024x64_0_0) shapeCasts_S1024x64_S4x256x64
def indices (d : Dev nD) : IVec S4x256 32 := shapeCast S4x256 (codeCol m d) shapeCasts_S1024x1_S4x256

theorem VA_v0 (d : Dev nD) : VA m d (dv main_v0) = zRows m d := by
  unfold VA; exact StableHlo.reshape_result _ _ _ _ _ _ _
theorem VA_of (d : Dev nD) {b : DevRef τ sig} (h : b ∉ ({dv main_v0} : Finset (DevRef τ sig))) : VA m d b = m (d, b) := by
  unfold VA; rw [(opZ (F := F)).result_of_not_mem _ h]; rfl
theorem VB_v1 (d : Dev nD) : VB m d (dv main_v1) = codeCol m d := Function.update_self _ _ _
theorem VB_of (d : Dev nD) {b : DevRef τ sig} (h : b ∉ ({dv main_v0, dv main_v1} : Finset (DevRef τ sig))) : VB m d b = m (d, b) := by
  simp only [Finset.mem_insert, Finset.mem_singleton, not_or] at h
  unfold VB; rw [Function.update_of_ne h.2, VA_of m d (by simpa using h.1)]

/-- The host operations between the region and the call leave everything but four arrays. -/
theorem VC_of (d : Dev nD) {b : DevRef τ sig}
    (h : b ∉ ({dv main_c, dv main_call0_v0, dv main_v2, dv main_v3} : Finset (DevRef τ sig))) : VC m d b = VB m d b := by
  simp only [Finset.mem_insert, Finset.mem_singleton, not_or] at h
  unfold VC
  rw [(opIx (F := F)).result_of_not_mem _ (b := b) (show b ∉ ({dv main_v3} : Finset (DevRef τ sig)) by simpa using h.2.2.2),
    (opPad (F := F)).result_of_not_mem _ (b := b) (show b ∉ ({dv main_v2} : Finset (DevRef τ sig)) by simpa using h.2.2.1),
    (opCv (F := F)).result_of_not_mem _ (b := b) (show b ∉ ({dv main_call0_v0} : Finset (DevRef τ sig)) by simpa using h.2.1),
    (opC (F := F)).result_of_not_mem _ (b := b) (show b ∉ ({dv main_c} : Finset (DevRef τ sig)) by simpa using h.1)]

theorem VC_v3 (d : Dev nD) : VC m d (dv main_v3) = codeList m d := by
  unfold VC
  refine (StableHlo.reshape_result _ _ _ _ _ _ _).trans ?_
  rw [(opPad (F := F)).result_of_not_mem _ (b := dv main_v1) (show dv main_v1 ∉ ({dv main_v2} : Finset (DevRef τ sig)) by decide),
    (opCv (F := F)).result_of_not_mem _ (b := dv main_v1) (show dv main_v1 ∉ ({dv main_call0_v0} : Finset (DevRef τ sig)) by decide),
    (opC (F := F)).result_of_not_mem _ (b := dv main_v1) (show dv main_v1 ∉ ({dv main_c} : Finset (DevRef τ sig)) by decide), VB_v1]
  rfl

theorem VC_v2 (d : Dev nD) : VC m d (dv main_v2) = padded m d := by
  unfold VC
  rw [(opIx (F := F)).result_of_not_mem _ (b := dv main_v2) (show dv main_v2 ∉ ({dv main_v3} : Finset (DevRef τ sig)) by decide)]
  refine (StableHlo.binary_result _ _ _ _ _ _ _ _).trans ?_
  rw [(opCv (F := F)).result_of_not_mem _ (b := dv main_arg1) (show dv main_arg1 ∉ ({dv main_call0_v0} : Finset (DevRef τ sig)) by decide),
    (opC (F := F)).result_of_not_mem _ (b := dv main_arg1) (show dv main_arg1 ∉ ({dv main_c} : Finset (DevRef τ sig)) by decide),
    VB_of m d (b := dv main_arg1) (by decide),
    show (opCv (F := F)).result ((opC (F := F)).result (VB m d)) (dv main_call0_v0)
      = (sitofp (F := F) .f32 (constantI S_ 32 0#32) : Vec F S_ .f32) from
      (StableHlo.unary_result _ _ _ _ _ _).trans (by rw [StableHlo.nullary_result]; rfl)]
  rfl

theorem VC_v4 (d : Dev nD) : VC m d (dv main_v4) = m (oLoc d) := by
  rw [VC_of m d (by decide), VB_of m d (by decide)]
theorem VD_of (d : Dev nD) {b : DevRef τ sig} (h : b ≠ dv main_v4) : VD m d b = VC m d b := Function.update_of_ne h _ _
theorem VD_v4 (d : Dev nD) : VD m d (dv main_v4) = rows m d := Function.update_self _ _ _

theorem VE_of (d : Dev nD) {b : DevRef τ sig}
    (h : b ∉ ({dv main_v5, dv main_v6, dv main_v7} : Finset (DevRef τ sig))) : VE m d b = VD m d b := by
  simp only [Finset.mem_insert, Finset.mem_singleton, not_or] at h
  unfold VE
  rw [(opR7 (F := F)).result_of_not_mem _ (b := b) (show b ∉ ({dv main_v7} : Finset (DevRef τ sig)) by simpa using h.2.2),
    (opR6 (F := F)).result_of_not_mem _ (b := b) (show b ∉ ({dv main_v6} : Finset (DevRef τ sig)) by simpa using h.2.1),
    (opSl (F := F)).result_of_not_mem _ (b := b) (show b ∉ ({dv main_v5} : Finset (DevRef τ sig)) by simpa using h.1)]
theorem VE_arg0 (d : Dev nD) : VE m d (dv main_arg0) = m ((SparseCore.T d).loc main_arg0) := by
  rw [VE_of m d (by decide), VD_of m d (by decide), VC_of m d (by decide), VB_of m d (by decide)]
theorem VE_arg1 (d : Dev nD) : VE m d (dv main_arg1) = m ((SparseCore.T d).loc main_arg1) := by
  rw [VE_of m d (by decide), VD_of m d (by decide), VC_of m d (by decide), VB_of m d (by decide)]
theorem VE_v6 (d : Dev nD) : VE m d (dv main_v6) = quantized m d := by
  unfold VE
  rw [(opR7 (F := F)).result_of_not_mem _ (b := dv main_v6) (show dv main_v6 ∉ ({dv main_v7} : Finset (DevRef τ sig)) by decide)]
  refine (StableHlo.reshape_result _ _ _ _ _ _ _).trans ?_
  rw [show (opSl (F := F)).result (VD m d) (Proc.devRef .tc main_v5)
    = extractStridedSlice S1024x64 ![0, 0] (rows m d : Vec F S1024x128 .f32) slices_S1024x128_S1024x64_0_0 from
      (StableHlo.unary_result _ _ _ _ _ _).trans (by rw [VD_v4])]
  rfl
theorem VE_v7 (d : Dev nD) : VE m d (dv main_v7) = indices m d := by
  unfold VE
  refine (StableHlo.reshape_result _ _ _ _ _ _ _).trans ?_
  rw [(opR6 (F := F)).result_of_not_mem _ (b := dv main_v1) (show dv main_v1 ∉ ({dv main_v6} : Finset (DevRef τ sig)) by decide),
    (opSl (F := F)).result_of_not_mem _ (b := dv main_v1) (show dv main_v1 ∉ ({dv main_v5} : Finset (DevRef τ sig)) by decide),
    VD_of m d (by decide), VC_of m d (by decide), VB_v1]
  rfl

/-! ## The arrays held, and taken apart -/

omit [FloatOps F] in
theorem held_three (d : Dev nD) {a b c : Ref sig .tc} (h : dv a ∉ ({dv b, dv c} : Finset (DevRef τ sig)) ∧ dv b ∉ ({dv c} : Finset (DevRef τ sig)))
    (hS : ({dv a, dv b, dv c} : Finset (DevRef τ sig)) ⊆ All) (W : Valuation τ sig (Elt F)) :
    (held (T d) All W : sProp 𝕄)
      = iprop((((SparseCore.T d).loc a ↦{fullShare} W (dv a)) ∗ ((SparseCore.T d).loc b ↦{fullShare} W (dv b)) ∗ (SparseCore.T d).loc c ↦{fullShare} W (dv c))
          ∗ held (T d) (All \ {dv a, dv b, dv c}) W) := by
  rw [held_sub_split (T d) hS W]
  congr 1
  unfold held
  rw [SparseCore.bigSep_insert' h.1, SparseCore.bigSep_insert' h.2, bigSep_singleton]

omit [FloatOps F] in
/-- Arrays other than one are held alike when that one's contents change. -/
theorem held_update (d : Dev nD) {S' : Finset (DevRef τ sig)} (W : Valuation τ sig (Elt F)) {b : DevRef τ sig} (v) (hb : b ∉ S') :
    (held (T d) S' (Function.update W b v) : sProp 𝕄) = held (T d) S' W := by
  unfold held
  exact bigSep_congr fun x hx => by rw [Function.update_of_ne (show x ≠ b from fun e => hb (e ▸ hx))]

omit [FloatOps F] in
theorem unscoped_held (d : Dev nD) : (unscopedBufs d (fun b => m ((SparseCore.T d).loc b)) : sProp 𝕄) = held (T d) All (V0 m d) := by
  unfold unscopedBufs held
  rw [show (Finset.univ.filter fun b : Ref sig .tc => ¬ b.isScoped)
    = {main_arg0, main_arg1, main_v0, main_v1, main_c, main_call0_v0, main_v2, main_v3, main_v4, main_v5, main_v6, main_v7} by decide]
  repeat rw [SparseCore.bigSep_insert' (by decide)]
  rw [bigSep_singleton, bigSep_singleton]
  rfl

/-- What @main leaves: the arguments at their launch contents, the two results. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v6 ↦{fullShare} quantized m d) ∗ (SparseCore.T d).loc main_v7 ↦{fullShare} indices m d)

theorem held_fin (d : Dev nD) : (held (T d) All (VE m d) : sProp 𝕄) ⊢ iprop(FIN m d ∗ held (T d) (All \ FinS) (VE m d)) := by
  rw [held_sub_split (T d) (show FinS ⊆ All by decide) (VE m d)]
  refine Entails.of_eq ?_
  congr 1
  unfold held FinS
  rw [SparseCore.bigSep_insert' (by decide), SparseCore.bigSep_insert' (by decide), SparseCore.bigSep_insert' (by decide), bigSep_singleton,
    VE_arg0, VE_arg1, VE_v6, VE_v7]

/-- Before and after the region. -/
theorem held_region_in (d : Dev nD) : (held (T d) All (VA m d) : sProp 𝕄)
    = iprop((pl d main_v0 (zRows m d) ∗ pl d main_arg1 (book m d) ∗ pl d main_v1 (m ((SparseCore.T d).loc main_v1))) ∗ held (T d) (All \ RegS) (VA m d)) := by
  rw [held_three d (a := main_v0) (b := main_arg1) (c := main_v1) (by decide) (by decide), VA_v0, VA_of m d (b := dv main_arg1) (by decide),
    VA_of m d (b := dv main_v1) (by decide)]
  rfl
theorem held_region_out (d : Dev nD) : (held (T d) All (VB m d) : sProp 𝕄)
    = iprop((pl d main_v0 (zRows m d) ∗ pl d main_arg1 (book m d) ∗ pl d main_v1 (codeCol m d)) ∗ held (T d) (All \ RegS) (VA m d)) := by
  rw [held_three d (a := main_v0) (b := main_arg1) (c := main_v1) (by decide) (by decide), VB_v1, VB_of m d (b := dv main_arg1) (by decide)]
  rw [show VB m d (dv main_v0) = zRows m d from (Function.update_of_ne (by decide) _ _).trans (VA_v0 m d)]
  rw [show (held (T d) (All \ {dv main_v0, dv main_arg1, dv main_v1}) (VB m d) : sProp 𝕄) = held (T d) (All \ RegS) (VA m d) from
    held_update d (VA m d) _ (by decide)]
  rfl

/-- Before and after the call. -/
theorem held_call_in (d : Dev nD) : (held (T d) All (VC m d) : sProp 𝕄)
    = iprop(((iLoc d ↦{fullShare} codeList m d) ∗ (xLoc d ↦{fullShare} padded m d) ∗ oLoc d ↦{fullShare} m (oLoc d)) ∗ held (T d) (All \ CallS) (VC m d)) := by
  rw [held_three d (a := main_v3) (b := main_v2) (c := main_v4) (by decide) (by decide), VC_v3, VC_v2, VC_v4]
theorem held_call_out (d : Dev nD) : (held (T d) All (VD m d) : sProp 𝕄)
    = iprop(((iLoc d ↦{fullShare} codeList m d) ∗ (xLoc d ↦{fullShare} padded m d) ∗ oLoc d ↦{fullShare} rows m d) ∗ held (T d) (All \ CallS) (VC m d)) := by
  rw [held_three d (a := main_v3) (b := main_v2) (c := main_v4) (by decide) (by decide), VD_v4, VD_of m d (b := dv main_v3) (by decide),
    VD_of m d (b := dv main_v2) (by decide), VC_v3, VC_v2]
  rw [show (held (T d) (All \ {dv main_v3, dv main_v2, dv main_v4}) (VD m d) : sProp 𝕄) = held (T d) (All \ CallS) (VC m d) from
    held_update d (VC m d) _ (by decide)]

/-! ## The region and @main -/

/-- The region's entry, and @main's spelling of it. -/
abbrev enter : Prog (TpuEff nD τ sig (Elt F) (ΛP (F := F)) .tc) PUnit :=
  Prog.lift (.customCall (Pipeline.entry (Λ₀ := Λ₀) (P := Fin 1) (A := fun p => (pcfgs (F := F) p).Adm) 0) ())
theorem entry_lifted : SparseCore.liftProg (Q := 1) (enter (F := F))
    = Prog.lift (.customCall (SparseCore.inner (Pipeline.entry 0)) ()) := rfl

/-- The region at the launch memory's values. -/
abbrev regM := reg (zRows m) (book m) (fun c => (m ((SparseCore.T c).loc main_v1) : IVec S1024x1 32))

theorem enter_wp [∀ e, Nonempty (Elt F e)] (d : Dev nD) (Φ : PUnit → sProp 𝕄) :
    iprop(((boundary (d.tc : Thread nD τ) ∗ (regM m).post d) -∗ Φ ⟨⟩)
        ∗ boundary (d.tc : Thread nD τ) ∗ (regM m).pre d ∗ levAts (K (F := F)).L (K (F := F)).lev ∗ Gh (F := F) d)
      ⊢ wp frame (wpE (D (F := F)) (Variants.lift 𝒱₀) (d.tc : Thread nD τ) none) Set.univ (enter (F := F)) Φ := by
  refine BIBase.Entails.trans ?_ (Pipeline.RegionSeg.wp (pcfgs (F := F)) adm (pdats (zRows m) (book m) (fun c => (m ((SparseCore.T c).loc main_v1) : IVec S1024x1 32))) none
    cellOf_inj (EP (F := F)) defs₀ 𝒱₀ (K (F := F)).L (K (F := F)).lev (regM m) d none
    (fun _ h => nomatch h) (fun x => .ret x) Φ)
  iintro ⟨HΦ, Hb, Hpre, Hlev, Hg, Ht⟩
  isplitl [HΦ]
  · iintro H
    rw [wp_ret]
    imodintro
    iapply HΦ $$ H
  isplitl [Hb]; · iexact Hb
  isplitl [Hpre]; · iexact Hpre
  isplitl [Hlev]; · iexact Hlev
  isplitl [Hg]; · iexact Hg
  iexact Ht

/-- The TensorCore kernel's call in @main: from its three arrays to the column of indices. -/
theorem region_wp [∀ e, Nonempty (Elt F e)] (d : Dev nD) (Φ : PUnit → sProp 𝕄) :
    iprop(((boundary (d.tc : Thread nD τ) ∗ (pl d main_v0 (zRows m d) ∗ pl d main_arg1 (book m d) ∗ pl d main_v1 (codeCol m d)) ∗ tcOwes (F := F) d) -∗ Φ ⟨⟩)
        ∗ boundary (d.tc : Thread nD τ) ∗ ((pl d main_v0 (zRows m d) ∗ pl d main_arg1 (book m d) ∗ pl d main_v1 (m ((SparseCore.T d).loc main_v1))) ∗ tcOwes (F := F) d) ∗ levAts (K (F := F)).L (K (F := F)).lev ∗ Gh (F := F) d)
      ⊢ wp frame (wpE ((K (F := F)).defs (D (F := F))) 𝒱 (SparseCore.T d) none) Set.univ
          (Prog.lift (.customCall (SparseCore.inner (Pipeline.entry 0)) ())) Φ := by
  rw [← entry_lifted]
  exact (enter_wp m d Φ).trans ((K (F := F)).wp_liftProg (D (F := F)) 𝒱 (SparseCore.T d) Set.univ none (enter (F := F)) Φ)

/-- What the call takes from the three arrays, and what it brings back, beside the table's remaining share. -/
theorem call_in (d : Dev nD) :
    iprop((iLoc d ↦{fullShare} codeList m d) ∗ (xLoc d ↦{fullShare} padded m d) ∗ oLoc d ↦{fullShare} m (oLoc d))
      ⊢ iprop((xLoc d ↦{Transfers.shareDrop fullShare 32} padded m d) ∗ bigSep Finset.univ fun c : Fin ((K (F := F)).nCore 0) => (P m).st 0 d c) := by
  rw [st_eq]; exact (parts_eq d (codeList m d) (padded m d) (m (oLoc d))).1
theorem call_out (d : Dev nD) :
    iprop((xLoc d ↦{Transfers.shareDrop fullShare 32} padded m d) ∗ bigSep Finset.univ fun c : Fin ((K (F := F)).nCore 0) => (P m).dn 0 d c)
      ⊢ iprop((iLoc d ↦{fullShare} codeList m d) ∗ (xLoc d ↦{fullShare} padded m d) ∗ oLoc d ↦{fullShare} rows m d) := by
  rw [dn_eq]; exact (parts_eq d (codeList m d) (padded m d) (rows m d)).2

/-- The TensorCore's state around its calls holds what it owes, and a rest that the region leaves alone. -/
theorem tcSt_open (d : Dev nD) : ∃ R : sProp 𝕄, (K (F := F)).tcSt EH d 0 = iprop(tcOwes (F := F) d ∗ R) := ⟨_, rfl⟩

set_option maxHeartbeats 800000 in
/-- @main on device `d`'s TensorCore, from the launch memory to the two results. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_open (F := F) d
  unfold SparseCore.Cfg.tcRes SparseCore.Cfg.tcEnd
  rw [unscoped_held]
  simp only [main, fn_pad.body, wp_bind, wp_pure]
  iintro ⟨#Hctx, Hst, ⟨Hb, Hheld, Hts, -⟩, Hgh⟩
  iapply (wp_hlo_within 𝒱 (SparseCore.T d) none Set.univ (op := opZ) (S := All) hZ (V := V0 m d)) $$ [Hb Hheld]
  · isplitl [Hb] <;> iassumption
  iintro ⟨Hb, Hheld⟩
  rw [wp_ret]; imodintro
  -- the TensorCore kernel
  ihave Hh := (Entails.of_eq (show (held (T d) All ((opZ (F := F)).result (V0 m d)) : sProp 𝕄) = _ from held_region_in (F := F) m d)) $$ Hheld
  icases Hh with ⟨Hreg, Hrest⟩
  ihave Hlev := ((K (F := F)).ctx_levAts κ) $$ Hctx
  ihave Hst' := (Entails.of_eq hR) $$ Hst
  icases Hst' with ⟨HO, Hst⟩
  iapply (region_wp m d _) $$ [Hb Hreg HO Hlev Hgh Hst Hrest Hts]
  isplitr [Hb Hreg HO Hlev Hgh]
  swap
  · isplitl [Hb]; · iexact Hb
    isplitl [Hreg HO]
    · isplitl [Hreg]; · iexact Hreg
      iexact HO
    isplitl [Hlev]; · iexact Hlev
    iexact Hgh
  iintro ⟨Hb, ⟨Hreg, HO⟩⟩
  ihave Hheld := (Entails.of_eq (held_region_out (F := F) m d).symm) $$ [Hreg Hrest]
  · isplitl [Hreg]; · iexact Hreg
    iexact Hrest
  -- the table and the index list
  iapply (wp_hlo_within 𝒱 (SparseCore.T d) none Set.univ (op := opC) (S := All) hC (V := VB m d)) $$ [Hb Hheld]
  · isplitl [Hb] <;> iassumption
  iintro ⟨Hb, Hheld⟩
  rw [wp_ret]; imodintro
  iapply (wp_hlo_within 𝒱 (SparseCore.T d) none Set.univ (op := opCv) (S := All) hCv (V := (opC (F := F)).result (VB m d))) $$ [Hb Hheld]
  · isplitl [Hb] <;> iassumption
  iintro ⟨Hb, Hheld⟩
  rw [wp_ret]; imodintro
  iapply (wp_hlo_within 𝒱 (SparseCore.T d) none Set.univ (op := opPad) (S := All) hPad
    (V := (opCv (F := F)).result ((opC (F := F)).result (VB m d)))) $$ [Hb Hheld]
  · isplitl [Hb] <;> iassumption
  iintro ⟨Hb, Hheld⟩
  rw [wp_ret]; imodintro; imodintro
  iapply (wp_hlo_within 𝒱 (SparseCore.T d) none Set.univ (op := opIx) (S := All) hIx
    (V := (opPad (F := F)).result ((opCv (F := F)).result ((opC (F := F)).result (VB m d))))) $$ [Hb Hheld]
  · isplitl [Hb] <;> iassumption
  iintro ⟨Hb, Hheld⟩
  rw [wp_ret]; imodintro
  -- the call
  ihave Hh := (Entails.of_eq (show (held (T d) All ((opIx (F := F)).result ((opPad (F := F)).result ((opCv (F := F)).result ((opC (F := F)).result (VB m d))))) : sProp 𝕄) = _
    from held_call_in (F := F) m d)) $$ Hheld
  icases Hh with ⟨Hcall, Hrest⟩
  ihave Hc := (call_in m d) $$ Hcall
  icases Hc with ⟨Hdrop, Hcall⟩
  iapply ((K (F := F)).wp_run (D (F := F)) 𝒱 (EH := EH) (P := P m) κ d 0) $$ [HO Hst Hcall Hdrop Hb Hrest Hts]
  isplitr; · iexact Hctx
  isplitl [HO Hst]
  · iapply (Entails.of_eq hR.symm)
    isplitl [HO]; · iexact HO
    iexact Hst
  isplitl [Hcall]; · iexact Hcall
  iintro ⟨Hst, Hdn⟩
  ihave Hcall := (call_out m d) $$ [Hdrop Hdn]
  · isplitl [Hdrop] <;> iassumption
  ihave Hheld := (Entails.of_eq (held_call_out (F := F) m d).symm) $$ [Hcall Hrest]
  · isplitl [Hcall] <;> iassumption
  -- the results
  iapply (wp_hlo_within 𝒱 (SparseCore.T d) none Set.univ (op := opSl) (S := All) hSl (V := VD m d)) $$ [Hb Hheld]
  · isplitl [Hb] <;> iassumption
  iintro ⟨Hb, Hheld⟩
  rw [wp_ret]; imodintro
  iapply (wp_hlo_within 𝒱 (SparseCore.T d) none Set.univ (op := opR6) (S := All) hR6 (V := (opSl (F := F)).result (VD m d))) $$ [Hb Hheld]
  · isplitl [Hb] <;> iassumption
  iintro ⟨Hb, Hheld⟩
  rw [wp_ret]; imodintro
  iapply (wp_hlo_within 𝒱 (SparseCore.T d) none Set.univ (op := opR7) (S := All) hR7 (V := (opR6 (F := F)).result ((opSl (F := F)).result (VD m d)))) $$ [Hb Hheld]
  · isplitl [Hb] <;> iassumption
  iintro ⟨Hb, Hheld⟩
  rw [wp_ret]; imodintro
  ihave Hh := (show (held (T d) All ((opR7 (F := F)).result ((opR6 (F := F)).result ((opSl (F := F)).result (VD m d)))) : sProp 𝕄) ⊢ _ from held_fin m d) $$ Hheld
  icases Hh with ⟨Hfin, -⟩
  imodintro
  isplitl [Hst]; · iexact Hst
  isplitl [Hfin]; · iexact Hfin
  isplitl [Hb] <;> iassumption

/-! ## The final state and the program's run -/

/-- What the claims read of a device's final memory. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v6) = quantized m d ∧ s'.mem.mem ((SparseCore.T d).loc main_v7) = indices m d

omit [FloatOps F] in
/-- An array held whole is what the final memory holds there. -/
theorem read_back (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H6, H7⟩, HSI⟩
  ihave H := (read_back s' _ _) $$ [H0 HSI]
  · isplitl [H0] <;> iassumption
  icases H with ⟨%h0, HSI⟩
  ihave H := (read_back s' _ _) $$ [H1 HSI]
  · isplitl [H1] <;> iassumption
  icases H with ⟨%h1, HSI⟩
  ihave H := (read_back s' _ _) $$ [H6 HSI]
  · isplitl [H6] <;> iassumption
  icases H with ⟨%h6, HSI⟩
  ihave H := (read_back s' _ _) $$ [H7 HSI]
  · isplitl [H7] <;> iassumption
  icases H with ⟨%h7, -⟩
  ipureintro; exact ⟨h0, h1, h6, h7⟩

/-- Every execution of the program ends with the arguments unchanged, the two results as computed, every counter at zero. -/
def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_v6) = quantized m c ∧ r.2.mem ((SparseCore.T c).loc main_v7) = indices m c) ∧ r.2.sem = fun _ => 0

theorem run_main [∀ e, Nonempty (Elt F e)] (hr : ∀ (z cb : Vec F S1024x64 .f32) j, (codes z cb j).toNat < 1032) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m hr)
    (fun q _ => match q with | 0 => SparseCore.Cfg.VecSplit.of_plain (vecSplit m))
    m ρ main (Gh (F := F)) (FIN m) (u₀ (F := F)) (sep_elim_left.trans (hu₀ m)) (hmain m ρ) (fq m) (hfin m) (QC m) (fun _ h hz => ⟨h, hz⟩)

end Cert.Proof.VQ

end
-- ==== Proof.RefRun.lean ====
/-
  The reference's run: @main is one line of host operations, the three functions it calls spelt out, so it ends with each
  buffer at the fold of the operations' results. The line is read in three stretches: the distances, the index of the least
  distance, and the rows taken at the indices.
-/
module

public import proofs.«01_k».proof.Defs
public import proofs.«01_k».proof.Proof.Gen.ReferenceIdeal
public import Idealize.ShloMosaic.Lib.StableHlo.Run
public import Idealize.ShloMosaic.Lib.Claim
public import Idealize.ShloMosaic.Lib.Quiescent
public import Idealize.ShloMosaic.Lib.Pipeline.Frame

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The three values -/

/-- The distances: at `(b, s, k)` the root of the sum over the 64 coordinates of the squared difference of latent row
    `(b, s)` and codebook row `k`. -/
def dist (z : Vec F S4x256x64 .f32) (cb : Vec F S1024x64 .f32) : Vec F S4x256x1024 .f32 :=
  let d : Vec F S4x256x1024x64 .f32 :=
    subf (broadcastInDim S4x256x1024x64 ![0, 1, 2, 3] bcast_S4x256x1x64_S4x256x1024x64_0_1_2_3
        (broadcastInDim S4x256x1x64 ![0, 1, 3] bcast_S4x256x64_S4x256x1x64_0_1_3 z))
      (broadcastInDim S4x256x1024x64 ![0, 1, 2, 3] bcast_S1x1x1024x64_S4x256x1024x64_0_1_2_3
        (broadcastInDim S1x1x1024x64 ![2, 3] bcast_S1024x64_S1x1x1024x64_2_3 cb))
  Host.sqrt (Host.reduceAdd (mulf d d) (constant S_ .f32 0x00000000#32) reducesTo_S4x256x1024x64_S4x256x1024_d3 h_S_)

/-- The index of the least entry along the last axis, the first one where several are least. -/
def nearest (x : Vec F S4x256x1024 .f32) : IVec S4x256 32 := fun j =>
  (Host.argReduce reducer_argmin_f32_i32 x (iotaInDim S4x256x1024 32 2) (constant S_ .f32 0x7F800000#32) (constantI S_ 32 0#32)
    reducesTo_S4x256x1024_S4x256_d2 h_S_ j).2

/-- The index with the codebook's length added where it is negative. -/
def wrapped (ix : IVec S4x256 32) : IVec S4x256 32 :=
  select (cmpi .slt ix (broadcastInDim S4x256 ![] bcast_S_S4x256 (constantI S_ 32 0#32)))
    (addi ix (broadcastInDim S4x256 ![] bcast_S_S4x256 (constantI S_ 32 1024#32))) ix

/-- The codebook's rows at the indices, a row of an index out of range replaced by the constant. -/
def taken (cb : Vec F S1024x64 .f32) (ix : IVec S4x256 32) : Vec F S4x256x64 .f32 :=
  let w : IVec S4x256x1 32 := broadcastInDim S4x256x1 ![0, 1] bcast_S4x256_S4x256x1_0_1 (wrapped ix)
  let ok : IVec S4x256 1 := Host.reduce IntOp.andi
    (andi (cmpi .sge w (broadcastInDim S4x256x1 ![] bcast_S_S4x256x1 (constantI S_ 32 0#32)))
      (cmpi .sle w (broadcastInDim S4x256x1 ![0, 1, 2] bcast_S1x1x1_S4x256x1_0_1_2
        (broadcastInDim S1x1x1 ![2] bcast_S1_S1x1x1_2 (constantI S1 32 1023#32)))))
    (constantI S_ 1 1#1) reducesTo_S4x256x1_S4x256_d2 h_S_
  select (broadcastInDim S4x256x64 ![0, 1] bcast_S4x256_S4x256x64_0_1 ok)
    (Host.gather gather_S1024x64_S4x256x1_S4x256x64_2_0_n_n_0_2_164 cb w)
    (broadcastInDim S4x256x64 ![] bcast_S_S4x256x64 (constant S_ .f32 0x7FC00000#32))

/-! ## The line -/

/-- The operations up to the distances. -/
abbrev opsDist : List (HloOp τ sig (Elt F)) :=
  [ StableHlo.unary main_arg0 main_v0 (broadcastInDim S4x256x1x64 ![0, 1, 3] bcast_S4x256x64_S4x256x1x64_0_1_3 : (⟨S4x256x64, .f32⟩ : BufTy).Contents (Elt F) → (⟨S4x256x1x64, .f32⟩ : BufTy).Contents (Elt F)),
    StableHlo.unary main_arg1 main_v1 (broadcastInDim S1x1x1024x64 ![2, 3] bcast_S1024x64_S1x1x1024x64_2_3 : (⟨S1024x64, .f32⟩ : BufTy).Contents (Elt F) → (⟨S1x1x1024x64, .f32⟩ : BufTy).Contents (Elt F)),
    StableHlo.unary main_v0 main_v2 (broadcastInDim S4x256x1024x64 ![0, 1, 2, 3] bcast_S4x256x1x64_S4x256x1024x64_0_1_2_3 : (⟨S4x256x1x64, .f32⟩ : BufTy).Contents (Elt F) → (⟨S4x256x1024x64, .f32⟩ : BufTy).Contents (Elt F)),
    StableHlo.unary main_v1 main_v3 (broadcastInDim S4x256x1024x64 ![0, 1, 2, 3] bcast_S1x1x1024x64_S4x256x1024x64_0_1_2_3 : (⟨S1x1x1024x64, .f32⟩ : BufTy).Contents (Elt F) → (⟨S4x256x1024x64, .f32⟩ : BufTy).Contents (Elt F)),
    StableHlo.binary main_v2 main_v3 main_v4 (subf : (⟨S4x256x1024x64, .f32⟩ : BufTy).Contents (Elt F) → (⟨S4x256x1024x64, .f32⟩ : BufTy).Contents (Elt F) → (⟨S4x256x1024x64, .f32⟩ : BufTy).Contents (Elt F)),
    StableHlo.binary main_v4 main_v4 main_call0_v0 (mulf : (⟨S4x256x1024x64, .f32⟩ : BufTy).Contents (Elt F) → (⟨S4x256x1024x64, .f32⟩ : BufTy).Contents (Elt F) → (⟨S4x256x1024x64, .f32⟩ : BufTy).Contents (Elt F)),
    StableHlo.nullary main_call0_cst (constant S_ .f32 0x00000000#32 : (⟨S_, .f32⟩ : BufTy).Contents (Elt F)),
    StableHlo.binary main_call0_v0 main_call0_cst main_call0_v1 ((fun x v => Host.reduceAdd x v reducesTo_S4x256x1024x64_S4x256x1024_d3 h_S_) : (⟨S4x256x1024x64, .f32⟩ : BufTy).Contents (Elt F) → (⟨S_, .f32⟩ : BufTy).Contents (Elt F) → (⟨S4x256x1024, .f32⟩ : BufTy).Contents (Elt F)),
    StableHlo.unary main_call0_v1 main_v5 (Host.sqrt : (⟨S4x256x1024, .f32⟩ : BufTy).Contents (Elt F) → (⟨S4x256x1024, .f32⟩ : BufTy).Contents (Elt F)) ]

/-- The operations from the distances to the indices. -/
abbrev opsNear : List (HloOp τ sig (Elt F)) :=
  [ StableHlo.nullary main_call1_v0 (iotaInDim S4x256x1024 32 2 : (⟨S4x256x1024, .i32⟩ : BufTy).Contents (Elt F)),
    StableHlo.nullary main_call1_cst (constant S_ .f32 0x7F800000#32 : (⟨S_, .f32⟩ : BufTy).Contents (Elt F)),
    StableHlo.nullary main_call1_c (constantI S_ 32 0#32 : (⟨S_, .i32⟩ : BufTy).Contents (Elt F)),
    StableHlo.quaternary main_v5 main_call1_v0 main_call1_cst main_call1_c main_call1_v1_0 ((fun x y u v j => (Host.argReduce reducer_argmin_f32_i32 x y u v reducesTo_S4x256x1024_S4x256_d2 h_S_ j).1) : (⟨S4x256x1024, .f32⟩ : BufTy).Contents (Elt F) → (⟨S4x256x1024, .i32⟩ : BufTy).Contents (Elt F) → (⟨S_, .f32⟩ : BufTy).Contents (Elt F) → (⟨S_, .i32⟩ : BufTy).Contents (Elt F) → (⟨S4x256, .f32⟩ : BufTy).Contents (Elt F)),
    StableHlo.quaternary main_v5 main_call1_v0 main_call1_cst main_call1_c main_v6 ((fun x y u v j => (Host.argReduce reducer_argmin_f32_i32 x y u v reducesTo_S4x256x1024_S4x256_d2 h_S_ j).2) : (⟨S4x256x1024, .f32⟩ : BufTy).Contents (Elt F) → (⟨S4x256x1024, .i32⟩ : BufTy).Contents (Elt F) → (⟨S_, .f32⟩ : BufTy).Contents (Elt F) → (⟨S_, .i32⟩ : BufTy).Contents (Elt F) → (⟨S4x256, .i32⟩ : BufTy).Contents (Elt F)) ]

/-- The operations from the indices to the rows. -/
abbrev opsTake : List (HloOp τ sig (Elt F)) :=
  [ StableHlo.nullary main_call2_c (constantI S_ 32 0#32 : (⟨S_, .i32⟩ : BufTy).Contents (Elt F)),
    StableHlo.unary main_call2_c main_call2_v0 (broadcastInDim S4x256 ![] bcast_S_S4x256 : (⟨S_, .i32⟩ : BufTy).Contents (Elt F) → (⟨S4x256, .i32⟩ : BufTy).Contents (Elt F)),
    StableHlo.binary main_v6 main_call2_v0 main_call2_v1 (cmpi .slt : (⟨S4x256, .i32⟩ : BufTy).Contents (Elt F) → (⟨S4x256, .i32⟩ : BufTy).Contents (Elt F) → (⟨S4x256, .i1⟩ : BufTy).Contents (Elt F)),
    StableHlo.nullary main_call2_c_0 (constantI S_ 32 1024#32 : (⟨S_, .i32⟩ : BufTy).Contents (Elt F)),
    StableHlo.unary main_call2_c_0 main_call2_v2 (broadcastInDim S4x256 ![] bcast_S_S4x256 : (⟨S_, .i32⟩ : BufTy).Contents (Elt F) → (⟨S4x256, .i32⟩ : BufTy).Contents (Elt F)),
    StableHlo.binary main_v6 main_call2_v2 main_call2_v3 (addi : (⟨S4x256, .i32⟩ : BufTy).Contents (Elt F) → (⟨S4x256, .i32⟩ : BufTy).Contents (Elt F) → (⟨S4x256, .i32⟩ : BufTy).Contents (Elt F)),
    StableHlo.ternary main_call2_v1 main_call2_v3 main_v6 main_call2_v4 (select : (⟨S4x256, .i1⟩ : BufTy).Contents (Elt F) → (⟨S4x256, .i32⟩ : BufTy).Contents (Elt F) → (⟨S4x256, .i32⟩ : BufTy).Contents (Elt F) → (⟨S4x256, .i32⟩ : BufTy).Contents (Elt F)),
    StableHlo.unary main_call2_v4 main_call2_v5 (broadcastInDim S4x256x1 ![0, 1] bcast_S4x256_S4x256x1_0_1 : (⟨S4x256, .i32⟩ : BufTy).Contents (Elt F) → (⟨S4x256x1, .i32⟩ : BufTy).Contents (Elt F)),
    StableHlo.nullary main_call2_c_1 (constantI S1 32 1023#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 (broadcastInDim S4x256x1 ![] bcast_S_S4x256x1 : (⟨S_, .i32⟩ : BufTy).Contents (Elt F) → (⟨S4x256x1, .i32⟩ : BufTy).Contents (Elt F)),
    StableHlo.binary main_call2_v5 main_call2_v6 main_call2_v7 (cmpi .sge : (⟨S4x256x1, .i32⟩ : BufTy).Contents (Elt F) → (⟨S4x256x1, .i32⟩ : BufTy).Contents (Elt F) → (⟨S4x256x1, .i1⟩ : BufTy).Contents (Elt F)),
    StableHlo.unary main_call2_c_1 main_call2_v8 (broadcastInDim S1x1x1 ![2] bcast_S1_S1x1x1_2 : (⟨S1, .i32⟩ : BufTy).Contents (Elt F) → (⟨S1x1x1, .i32⟩ : BufTy).Contents (Elt F)),
    StableHlo.unary main_call2_v8 main_call2_v9 (broadcastInDim S4x256x1 ![0, 1, 2] bcast_S1x1x1_S4x256x1_0_1_2 : (⟨S1x1x1, .i32⟩ : BufTy).Contents (Elt F) → (⟨S4x256x1, .i32⟩ : BufTy).Contents (Elt F)),
    StableHlo.binary main_call2_v5 main_call2_v9 main_call2_v10 (cmpi .sle : (⟨S4x256x1, .i32⟩ : BufTy).Contents (Elt F) → (⟨S4x256x1, .i32⟩ : BufTy).Contents (Elt F) → (⟨S4x256x1, .i1⟩ : BufTy).Contents (Elt F)),
    StableHlo.binary main_call2_v7 main_call2_v10 main_call2_v11 (andi : (⟨S4x256x1, .i1⟩ : BufTy).Contents (Elt F) → (⟨S4x256x1, .i1⟩ : BufTy).Contents (Elt F) → (⟨S4x256x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 ((fun x v => Host.reduce IntOp.andi x v reducesTo_S4x256x1_S4x256_d2 h_S_) : (⟨S4x256x1, .i1⟩ : BufTy).Contents (Elt F) → (⟨S_, .i1⟩ : BufTy).Contents (Elt F) → (⟨S4x256, .i1⟩ : BufTy).Contents (Elt F)),
    StableHlo.binary main_arg1 main_call2_v5 main_call2_v13 ((fun x i => Host.gather gather_S1024x64_S4x256x1_S4x256x64_2_0_n_n_0_2_164 x i) : (⟨S1024x64, .f32⟩ : BufTy).Contents (Elt F) → (⟨S4x256x1, .i32⟩ : BufTy).Contents (Elt F) → (⟨S4x256x64, .f32⟩ : BufTy).Contents (Elt F)),
    StableHlo.unary main_call2_v12 main_call2_v14 (broadcastInDim S4x256x64 ![0, 1] bcast_S4x256_S4x256x64_0_1 : (⟨S4x256, .i1⟩ : BufTy).Contents (Elt F) → (⟨S4x256x64, .i1⟩ : BufTy).Contents (Elt F)),
    StableHlo.nullary main_call2_cst (constant S_ .f32 0x7FC00000#32 : (⟨S_, .f32⟩ : BufTy).Contents (Elt F)),
    StableHlo.unary main_call2_cst main_call2_v15 (broadcastInDim S4x256x64 ![] bcast_S_S4x256x64 : (⟨S_, .f32⟩ : BufTy).Contents (Elt F) → (⟨S4x256x64, .f32⟩ : BufTy).Contents (Elt F)),
    StableHlo.ternary main_call2_v14 main_call2_v13 main_call2_v15 main_v7 (select : (⟨S4x256x64, .i1⟩ : BufTy).Contents (Elt F) → (⟨S4x256x64, .f32⟩ : BufTy).Contents (Elt F) → (⟨S4x256x64, .f32⟩ : BufTy).Contents (Elt F) → (⟨S4x256x64, .f32⟩ : BufTy).Contents (Elt F)) ]

/-- The whole line. -/
abbrev ops : List (HloOp τ sig (Elt F)) := opsDist ++ (opsNear ++ opsTake)

/-- @main is the line. -/
theorem main_eq (c : Dev nD) : main (F := F) c = seq ops := rfl

/-- The line's stretches run one after the other. -/
theorem after_ops (V : Valuation τ sig (Elt F)) :
    after (ops (F := F)) V = after opsTake (after opsNear (after opsDist V)) := rfl

/-! ## What each stretch leaves -/

theorem dist_v5 (V : Valuation τ sig (Elt F)) :
    after (opsDist (F := F)) V (main_v5 : DevRef τ sig) = dist (V (main_arg0 : DevRef τ sig)) (V (main_arg1 : DevRef τ sig)) := by
  after_results_simp
  rfl

theorem dist_arg0 (V : Valuation τ sig (Elt F)) : after (opsDist (F := F)) V (main_arg0 : DevRef τ sig) = V (main_arg0 : DevRef τ sig) := by
  after_results_simp

theorem dist_arg1 (V : Valuation τ sig (Elt F)) : after (opsDist (F := F)) V (main_arg1 : DevRef τ sig) = V (main_arg1 : DevRef τ sig) := by
  after_results_simp

theorem near_v6 (V : Valuation τ sig (Elt F)) :
    after (opsNear (F := F)) V (main_v6 : DevRef τ sig) = nearest (V (main_v5 : DevRef τ sig)) := by
  after_results_simp
  rfl

theorem near_arg0 (V : Valuation τ sig (Elt F)) : after (opsNear (F := F)) V (main_arg0 : DevRef τ sig) = V (main_arg0 : DevRef τ sig) := by
  after_results_simp

theorem near_arg1 (V : Valuation τ sig (Elt F)) : after (opsNear (F := F)) V (main_arg1 : DevRef τ sig) = V (main_arg1 : DevRef τ sig) := by
  after_results_simp

theorem take_v7 (V : Valuation τ sig (Elt F)) :
    after (opsTake (F := F)) V (main_v7 : DevRef τ sig) = taken (V (main_arg1 : DevRef τ sig)) (V (main_v6 : DevRef τ sig)) := by
  after_results_simp
  rfl

theorem take_v6 (V : Valuation τ sig (Elt F)) : after (opsTake (F := F)) V (main_v6 : DevRef τ sig) = V (main_v6 : DevRef τ sig) := by
  after_results_simp

theorem take_arg0 (V : Valuation τ sig (Elt F)) : after (opsTake (F := F)) V (main_arg0 : DevRef τ sig) = V (main_arg0 : DevRef τ sig) := by
  after_results_simp

theorem take_arg1 (V : Valuation τ sig (Elt F)) : after (opsTake (F := F)) V (main_arg1 : DevRef τ sig) = V (main_arg1 : DevRef τ sig) := by
  after_results_simp

/-! ## The run -/

variable (m : (ℓ : Loc nD τ sig) → Buf (Elt F) ℓ) (ρ : Dev nD → PrngReg)

/-- The reference's indices from the launch memory. -/
def indices (c : Dev nD) : IVec S4x256 32 :=
  nearest (dist (m ((c.tc : Thread nD τ).loc main_arg0)) (m ((c.tc : Thread nD τ).loc main_arg1)))

/-- The reference's quantized latents from the launch memory. -/
def quantized (c : Dev nD) : Vec F S4x256x64 .f32 := taken (m ((c.tc : Thread nD τ).loc main_arg1)) (indices m c)

/-- Every run of the reference ends with its arguments unchanged, its results at `quantized` and `indices`, and every
    counter at zero. -/
theorem run_main : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v7) = quantized m c
      ∧ r.2.mem ((c.tc : Thread nD τ).loc main_v6) = indices m c) ∧ r.2.sem = fun _ => 0 := by
  refine (θ_run _ _ _).mono (fun r h => ⟨fun c => ⟨?_, ?_, ?_, ?_⟩, ?_⟩)
    (run_seq (by decide) (by decide) defs main (fun _ => ops) main_eq (fun _ => by simp) m ρ)
  · rw [h, after_ops, take_arg0, near_arg0, dist_arg0]
  · rw [h, after_ops, take_arg1, near_arg1, dist_arg1]
  · rw [h, after_ops, take_v7, near_arg1, dist_arg1, near_v6, dist_v5]; rfl
  · rw [h, after_ops, take_v6, near_v6, dist_v5]; rfl
  · exact sem_eq_zero_of_no_sems (by decide) _

end Cert.Proof.Ref

end
-- ==== Proof.Pick.lean ====
/-
  The TensorCore kernel's index column, in its parts: the first column holding a row's least score, the first one once that
  column is struck out, and the choice between the two by their distances. The least column that holds a mask's one,
  as a word: at most 1024, so every index names a row of the padded table.
-/
module

public import proofs.«01_k».proof.Proof.Region
public import Idealize.ShloMosaic.Lib.Pointwise
public import Idealize.ShloMosaic.Lib.SortNet.Extract

@[expose] public section

set_option maxRecDepth 16384

noncomputable section

namespace Cert.Proof.VQ

open Cert.KernelIdeal Cert.KernelIdeal.Gen

open Idealize.ShloMosaic

variable {F : FTy → Type} [FloatOps F]

/-! ## The parts -/

/-- The columns' numbers. -/
abbrev cols : IVec S1024x1024 32 := iota .tc S1024x1024 32 [1] iota_S1024x1024_d1_w32

/-- The least column at which a row of the mask holds one (1024 if none does). -/
def pick (mask : IVec S1024x1024 1) : IVec S1024x1 32 :=
  shapeCast S1024x1 (multiReductionI .minsi [1] S1024 (select mask cols (broadcast S1024x1024 1024#32)) 2147483647#32 reduces_S1024x1024_S1024 rfl)
    shapeCasts_S1024_S1024x1

/-- Where a score is its row's least. -/
def least (s : FVec F S1024x1024 .f32) : IVec S1024x1024 1 :=
  cmpf .oeq s (broadcastTo S1024x1024 (shapeCast S1024x1 (multiReduction .minimumf [1] S1024 s 0x7F800000#32 reduces_S1024x1024_S1024 (.inl rfl) rfl)
    shapeCasts_S1024_S1024x1) broadcasts_S1024x1_S1024x1024)

/-- Where a column is the row's chosen one. -/
def at1 (i : IVec S1024x1 32) : IVec S1024x1024 1 := cmpi .eq cols (broadcastTo S1024x1024 i broadcasts_S1024x1_S1024x1024)

/-- The scores with each row's chosen column struck out. -/
def struck (i : IVec S1024x1 32) (s : FVec F S1024x1024 .f32) : FVec F S1024x1024 .f32 :=
  select (at1 i) (broadcast S1024x1024 (Scalar.ofBits .f32 0x7F800000#32)) s

/-- The chosen columns' rows of the codebook by products with the one-hot rows, summed over the codebook's three parts. -/
def fetch (i : IVec S1024x1 32) (hi mid lo : FVec F S1024x64 .bf16) : FVec F S1024x64 .f32 :=
  addf (addf
    (matmul dot_S1024x1024_S1024x64_S1024x64_1_0_0_1_n_n none (truncf .bf16 (sitofp .f32 (extui 32 (at1 i) natLt_1_32)) bitsLt_bf16_f32) hi (constant S1024x64 .f32 0x00000000#32))
    (matmul dot_S1024x1024_S1024x64_S1024x64_1_0_0_1_n_n none (truncf .bf16 (sitofp .f32 (extui 32 (at1 i) natLt_1_32)) bitsLt_bf16_f32) mid (constant S1024x64 .f32 0x00000000#32)))
    (matmul dot_S1024x1024_S1024x64_S1024x64_1_0_0_1_n_n none (truncf .bf16 (sitofp .f32 (extui 32 (at1 i) natLt_1_32)) bitsLt_bf16_f32) lo (constant S1024x64 .f32 0x00000000#32))

/-- The distance of each row from a row of its own. -/
def away (z r : FVec F S1024x64 .f32) : FVec F S1024x1 .f32 :=
  sqrt (shapeCast S1024x1 (multiReduction .add [1] S1024 (mulf (subf z r) (subf z r)) 0x00000000#32 reduces_S1024x64_S1024 (.inl rfl) rfl) shapeCasts_S1024_S1024x1)

/-- Whether the second choice is nearer, or as near and earlier. -/
def better (d1 d2 : FVec F S1024x1 .f32) (i1 i2 : IVec S1024x1 32) : IVec S1024x1 1 :=
  ori (cmpf .olt d2 d1) (andi (cmpf .oeq d2 d1) (cmpi .slt i2 i1))

/-- The two choices. -/
def one (z cb : Vec F S1024x64 .f32) : IVec S1024x1 32 := pick (least (k0_pay6 z cb))
def two (z cb : Vec F S1024x64 .f32) : IVec S1024x1 32 := pick (least (struck (one z cb) (k0_pay6 z cb)))

theorem codes_eq (z cb : Vec F S1024x64 .f32) : codes z cb = select
    (better (away (k0_pay1 z) (fetch (one z cb) (k0_pay2 cb) (k0_pay4 cb) (k0_pay5 cb)))
      (away (k0_pay1 z) (fetch (two z cb) (k0_pay2 cb) (k0_pay4 cb) (k0_pay5 cb))) (one z cb) (two z cb))
    (two z cb) (one z cb) := rfl

/-! ## The least column -/

/-- The words of which `pick` takes the least: a column's number where the mask holds one, else 1024. -/
def word (f : Fin 1024 → BitVec 1) (k : Fin 1024) : BitVec 32 := Scalar.select (f k) (BitVec.ofNat 32 k.val) 1024#32

theorem word_toInt (f : Fin 1024 → BitVec 1) (k : Fin 1024) : (word f k).toInt = if f k = 1#1 then (k.val : ℤ) else 1024 := by
  have hk := k.isLt
  have hn : (BitVec.ofNat 32 k.val).toNat = k.val := by rw [BitVec.toNat_ofNat]; exact Nat.mod_eq_of_lt (by omega)
  unfold word Scalar.select
  by_cases h : f k = 1#1
  · rw [if_pos (show f k = 1 from h), if_pos h, BitVec.toInt_eq_toNat_of_lt (by rw [hn]; omega), hn]
  · rw [if_neg (show ¬ f k = 1 from h), if_neg h]; rfl

theorem pick_apply (mask : IVec S1024x1024 1) (i : Fin 1024) :
    pick mask (ix2 i 0) = Finset.univ.fold IntOp.minsi 2147483647#32 (word fun k => mask (ix2 i k)) := by
  unfold pick
  pointwise
  rfl

/-- The fold as an integer. -/
theorem fold_toInt (f : Fin 1024 → BitVec 1) :
    (Finset.univ.fold IntOp.minsi 2147483647#32 (word f)).toInt = Finset.univ.fold min (2147483647 : ℤ) fun k => (word f k).toInt :=
  (Finset.fold_hom (op := IntOp.minsi) (op' := min) (m := BitVec.toInt) SortNet.toInt_minsi).symm

theorem pick_bounds (mask : IVec S1024x1024 1) (i : Fin 1024) :
    0 ≤ (pick mask (ix2 i 0)).toInt ∧ (pick mask (ix2 i 0)).toInt ≤ 1024 := by
  rw [pick_apply, fold_toInt]
  refine ⟨(Finset.le_fold_min _).2 ⟨by decide, fun k _ => ?_⟩, (Finset.fold_min_le _).2 (.inr ⟨0, Finset.mem_univ _, ?_⟩)⟩ <;> rw [word_toInt] <;> split <;> simp

theorem pick_toNat (mask : IVec S1024x1024 1) (i : Fin 1024) : ((pick mask (ix2 i 0)).toNat : ℤ) = (pick mask (ix2 i 0)).toInt := by
  have h := pick_bounds mask i
  generalize pick mask (ix2 i 0) = w at h ⊢
  have e := BitVec.toInt_eq_toNat_cond w
  have := w.isLt
  split at e <;> omega

theorem pick_le (mask : IVec S1024x1024 1) (i : Fin 1024) : (pick mask (ix2 i 0)).toNat ≤ 1024 := by
  have h := pick_bounds mask i
  have := pick_toNat mask i
  omega

/-- It is at most every column that holds a one. -/
theorem pick_le_of (mask : IVec S1024x1024 1) (i k : Fin 1024) (h : mask (ix2 i k) = 1#1) : (pick mask (ix2 i 0)).toNat ≤ k.val := by
  have := pick_toNat mask i
  have h2 : (pick mask (ix2 i 0)).toInt ≤ k.val := by
    rw [pick_apply, fold_toInt]
    refine (Finset.fold_min_le _).2 (.inr ⟨k, Finset.mem_univ _, ?_⟩)
    rw [word_toInt, if_pos h]
  omega

/-- Where it is a column's number, that column holds a one. -/
theorem pick_hit (mask : IVec S1024x1024 1) (i n : Fin 1024) (h : (pick mask (ix2 i 0)).toNat = n.val) : mask (ix2 i n) = 1#1 := by
  have e := pick_toNat mask i
  have hn := n.isLt
  have h2 : ∃ k : Fin 1024, (word (fun k => mask (ix2 i k)) k).toInt ≤ (pick mask (ix2 i 0)).toInt := by
    have : Finset.univ.fold min (2147483647 : ℤ) (fun k => (word (fun k => mask (ix2 i k)) k).toInt) ≤ (pick mask (ix2 i 0)).toInt := by
      rw [pick_apply, fold_toInt]
    rcases (Finset.fold_min_le _).1 this with h3 | ⟨k, -, hk⟩
    · omega
    · exact ⟨k, hk⟩
  obtain ⟨k, hk⟩ := h2
  rw [word_toInt] at hk
  split at hk
  · rename_i hm
    have h3 := pick_le_of mask i k hm
    have hv : k = n := Fin.ext (by omega)
    exact hv ▸ hm
  · omega

/-- Every index names a row of the padded table. -/
theorem codes_lt (z cb : Vec F S1024x64 .f32) (j) : (codes z cb j).toNat < 1032 := by
  obtain ⟨i, rfl⟩ : ∃ i : Fin 1024, j = ix2 i 0 := ⟨j 0, by
    funext a; fin_cases a
    · rfl
    · exact Subsingleton.elim (α := Fin 1) _ _⟩
  rw [codes_eq]
  unfold select Scalar.select one two
  split
  · exact Nat.lt_of_le_of_lt (pick_le _ i) (by decide)
  · exact Nat.lt_of_le_of_lt (pick_le _ i) (by decide)

end Cert.Proof.VQ

end
-- ==== Proof.Scores.lean ====
/-
  At real arguments: the scores as reals. A change of float format is the identity on the extended reals, so the parts of
  the codebook and of the latents below the first are zero, and row `i`'s score of codebook row `k` is the row's squared
  length less twice its product with the latent.
-/
module

public import proofs.«01_k».proof.Proof.Pick
public import Idealize.ShloMosaic.Lib.IdealHost

@[expose] public section

set_option maxRecDepth 16384

noncomputable section

namespace Cert.Proof.VQ

open Cert.KernelIdeal Cert.KernelIdeal.Gen

open Idealize.ShloMosaic

/-- A sum of reals among the extended reals. -/
theorem sum_real {n : ℕ} (f : Fin n → ℝ) : ∑ t, ((f t : ℝ) : EReal) = ((∑ t, f t : ℝ) : EReal) := by
  induction n with
  | zero => simp
  | succ n ih => rw [Fin.sum_univ_succ, Fin.sum_univ_succ, ih fun t => f t.succ, EReal.coe_add]

/-- A table of reals as a vector of floats. -/
abbrev up (x : Fin 1024 → Fin 64 → ℝ) : Vec Ideal S1024x64 .f32 := fun j => ((x (j 0) (j 1) : ℝ) : EReal)

theorem minus_two : Ideal.ofBits .bf16 49152#16 = ((-2 : ℝ) : EReal) := by
  simp [Ideal.ofBits, Ideal.ieee, -EReal.coe_mul, -EReal.coe_neg]
  norm_num

theorem plus_inf : Ideal.ofBits .f32 2139095040#32 = (⊤ : EReal) := by
  simp [Ideal.ofBits, Ideal.ieee]

theorem fin_of (v : ℕ) (h : v < 1024) : ∃ n : Fin 1024, n.val = v := ⟨⟨v, h⟩, rfl⟩

theorem sitofp_one : FloatOps.sitofp (F := Ideal) FTy.f32 1#32 = (1 : EReal) := by
  simp [FloatOps.sitofp, Ideal.scalarOps]

theorem sitofp_zero : FloatOps.sitofp (F := Ideal) FTy.f32 0#32 = (0 : EReal) := by
  simp [FloatOps.sitofp, Ideal.scalarOps]

theorem ofBool_iff (p : Prop) [Decidable p] : BitVec.ofBool (decide p) = 1#1 ↔ p := by
  by_cases h : p <;> simp [h]

theorem up_apply (x : Fin 1024 → Fin 64 → ℝ) (i : Fin 1024) (t : Fin 64) : up x (ix2 i t) = ((x i t : ℝ) : EReal) := rfl

/-- A score: the codebook row's squared length less twice its product with the latent. -/
def score (x c : Fin 1024 → Fin 64 → ℝ) (i k : Fin 1024) : ℝ := ∑ t, c k t * c k t - 2 * ∑ t, x i t * c k t

/-- A squared distance. -/
def apart (x c : Fin 1024 → Fin 64 → ℝ) (i k : Fin 1024) : ℝ := ∑ t, (x i t - c k t) * (x i t - c k t)

/-- It is the score and the latent's squared length. -/
theorem apart_eq (x c : Fin 1024 → Fin 64 → ℝ) (i k : Fin 1024) : apart x c i k = score x c i k + ∑ t, x i t * x i t := by
  unfold apart score
  rw [Finset.mul_sum, ← Finset.sum_sub_distrib, ← Finset.sum_add_distrib]
  exact Finset.sum_congr rfl fun t _ => by ring

theorem apart_nonneg (x c : Fin 1024 → Fin 64 → ℝ) (i k : Fin 1024) : 0 ≤ apart x c i k :=
  Finset.sum_nonneg fun t _ => mul_self_nonneg _

/-- The kernel's scores are those. -/
theorem scores_apply (x c : Fin 1024 → Fin 64 → ℝ) (i k : Fin 1024) : k0_pay6 (up x) (up c) (ix2 i k) = ((score x c i k : ℝ) : EReal) := by
  pointwise [k0_pay6, k0_pay2, k0_pay3, k0_pay4, k0_pay5, k0_pay1]
  rw [minus_two, Fin.sum_univ_two_halves 64 131 rfl, Fin.sum_univ_two_halves 64 67 rfl, Fin.sum_univ_two_halves 64 3 rfl, Fin.sum_univ_three]
  simp
  simp only [up_apply, ← EReal.coe_mul, ← EReal.coe_neg, sum_real, ← EReal.coe_sub, ← EReal.coe_add]
  congr 1
  unfold score
  rw [Finset.sum_neg_distrib, Finset.mul_sum, sub_self, sub_self, add_zero, add_zero, add_comm, sub_eq_add_neg]
  congr 2
  exact Finset.sum_congr rfl fun t _ => by ring

/-! ## The first least entry -/

/-- `n` is the first index of a least entry. -/
def First {α : Type} [LinearOrder α] (f : Fin 1024 → α) (n : Fin 1024) : Prop := ∀ k, f n ≤ f k ∧ (f k = f n → n ≤ k)

theorem First.unique {α : Type} [LinearOrder α] {f : Fin 1024 → α} {n k : Fin 1024} (hn : First f n) (hk : First f k) : n = k :=
  have e : f n = f k := le_antisymm (hn k).1 (hk n).1
  le_antisymm ((hn k).2 e.symm) ((hk n).2 e)

/-- A row's least score. -/
theorem least_apply (s : FVec Ideal S1024x1024 .f32) (i k : Fin 1024) :
    least s (ix2 i k) = 1#1 ↔ s (ix2 i k) = Finset.univ.fold min (⊤ : EReal) fun l => s (ix2 i l) := by
  unfold least
  pointwise
  rw [plus_inf]
  exact ofBool_iff _

/-- The kernel's pick is the first column of the row's least score. -/
theorem pick_first (s : FVec Ideal S1024x1024 .f32) (i : Fin 1024) :
    ∃ n : Fin 1024, (pick (least s) (ix2 i 0)).toNat = n.val ∧ First (fun k => (s (ix2 i k) : EReal)) n := by
  obtain ⟨k₀, -, hk₀⟩ := Finset.exists_min_image Finset.univ (fun k : Fin 1024 => (s (ix2 i k) : EReal)) ⟨0, Finset.mem_univ _⟩
  have hmin : (Finset.univ.fold min (⊤ : EReal) fun l => (s (ix2 i l) : EReal)) = s (ix2 i k₀) :=
    le_antisymm ((Finset.fold_min_le _).2 (.inr ⟨k₀, Finset.mem_univ _, le_rfl⟩)) ((Finset.le_fold_min _).2 ⟨le_top, fun k hk => hk₀ k hk⟩)
  have hm : ∀ k, least s (ix2 i k) = 1#1 ↔ (s (ix2 i k) : EReal) = s (ix2 i k₀) := fun k => by rw [least_apply, hmin]
  have hle := pick_le_of (least s) i k₀ ((hm k₀).2 rfl)
  have hk := k₀.isLt
  obtain ⟨n, hn⟩ : ∃ n : Fin 1024, n.val = (pick (least s) (ix2 i 0)).toNat := fin_of _ (Nat.lt_of_le_of_lt hle hk)
  have h1 := (hm n).1 (pick_hit (least s) i n hn.symm)
  refine ⟨n, hn.symm, fun k => ⟨h1.trans_le (hk₀ k (Finset.mem_univ _)), fun e => ?_⟩⟩
  rw [Fin.le_def, hn]
  exact pick_le_of (least s) i k ((hm k).2 (e.trans h1))

/-! ## A chosen row and its distance -/

theorem at1_apply (w : IVec S1024x1 32) (i k n : Fin 1024) (h : (w (ix2 i 0)).toNat = n.val) :
    at1 w (ix2 i k) = BitVec.ofBool (decide (k = n)) := by
  unfold at1
  pointwise
  have hk := k.isLt
  have hn := n.isLt
  have e : w (ix2 i 0) = BitVec.ofNat 32 n.val := by rw [← h, BitVec.ofNat_toNat, BitVec.setWidth_eq]
  rw [e]
  show BitVec.ofBool (decide _) = _
  congr 1
  simp only [decide_eq_decide]
  refine ⟨fun h => ?_, fun h => by rw [h]⟩
  have h2 := congrArg BitVec.toNat h
  rw [BitVec.toNat_ofNat, BitVec.toNat_ofNat] at h2
  exact Fin.ext (by omega)

/-- The product with one-hot rows fetches the codebook's row. -/
theorem fetch_apply (c : Fin 1024 → Fin 64 → ℝ) (w : IVec S1024x1 32) (i n : Fin 1024) (h : (w (ix2 i 0)).toNat = n.val) (t : Fin 64) :
    fetch w (k0_pay2 (up c)) (k0_pay4 (up c)) (k0_pay5 (up c)) (ix2 i t) = ((c n t : ℝ) : EReal) := by
  unfold fetch
  pointwise [k0_pay2, k0_pay3, k0_pay4, k0_pay5]
  have hz : ∀ k, up c (ix2 k t) - up c (ix2 k t) = 0 := fun k => by
    rw [up_apply, ← EReal.coe_sub, sub_self, EReal.coe_zero]
  have ho : ∀ k, FloatOps.sitofp (F := Ideal) FTy.f32 (BitVec.setWidth 32 (at1 w (ix2 i k))) = if k = n then 1 else 0 := fun k => by
    rw [at1_apply w i k n h]
    by_cases e : k = n <;> simp [e, sitofp_one, sitofp_zero]
  simp [hz, ho]

theorem away_apply (x c : Fin 1024 → Fin 64 → ℝ) (r : FVec Ideal S1024x64 .f32) (i n : Fin 1024)
    (h : ∀ t, r (ix2 i t) = ((c n t : ℝ) : EReal)) : away (k0_pay1 (up x)) r (ix2 i 0) = ((Real.sqrt (apart x c i n) : ℝ) : EReal) := by
  unfold away
  pointwise [k0_pay1]
  simp only [h, up_apply, ← EReal.coe_sub, ← EReal.coe_mul, sum_real]
  show Ideal.sqrt ((apart x c i n : ℝ) : EReal) = _
  rw [Ideal.sqrt_coe, if_neg (not_lt.2 (apart_nonneg x c i n))]

/-! ## The index column -/

/-- No second choice is nearer, nor as near and earlier: the index is the first column of the row's least score. -/
theorem codes_first (x c : Fin 1024 → Fin 64 → ℝ) (i : Fin 1024) :
    ∃ n : Fin 1024, (codes (up x) (up c) (ix2 i 0)).toNat = n.val ∧ First (score x c i) n := by
  obtain ⟨n, hn, hf⟩ := pick_first (k0_pay6 (up x) (up c)) i
  obtain ⟨l, hl, -⟩ := pick_first (struck (one (up x) (up c)) (k0_pay6 (up x) (up c))) i
  have hf' : First (score x c i) n := fun k => by
    have := hf k
    simp only [scores_apply, EReal.coe_le_coe_iff, EReal.coe_eq_coe_iff] at this
    exact this
  have hd1 := away_apply x c _ i n (fetch_apply c (one (up x) (up c)) i n hn)
  have hd2 := away_apply x c _ i l (fetch_apply c (two (up x) (up c)) i l hl)
  have hb : better (away (k0_pay1 (up x)) (fetch (one (up x) (up c)) (k0_pay2 (up c)) (k0_pay4 (up c)) (k0_pay5 (up c))))
      (away (k0_pay1 (up x)) (fetch (two (up x) (up c)) (k0_pay2 (up c)) (k0_pay4 (up c)) (k0_pay5 (up c)))) (one (up x) (up c)) (two (up x) (up c)) (ix2 i 0)
      = 0#1 := by
    unfold better
    pointwise
    rw [hd1, hd2]
    have hle : apart x c i n ≤ apart x c i l := by
      rw [apart_eq, apart_eq]
      exact add_le_add_left (hf' l).1 _
    have h1 : ¬ ((Real.sqrt (apart x c i l) : ℝ) : EReal) < ((Real.sqrt (apart x c i n) : ℝ) : EReal) := by
      rw [EReal.coe_lt_coe_iff, not_lt]
      exact Real.sqrt_le_sqrt hle
    rw [decide_eq_false h1]
    by_cases e : ((Real.sqrt (apart x c i l) : ℝ) : EReal) = ((Real.sqrt (apart x c i n) : ℝ) : EReal)
    · have e2 : score x c i l = score x c i n := by
        rw [EReal.coe_eq_coe_iff, Real.sqrt_inj (apart_nonneg x c i l) (apart_nonneg x c i n), apart_eq, apart_eq] at e
        linarith
      have h2 : n.val ≤ l.val := (hf' l).2 e2
      have h3 : IntOp.cmpi CmpIPredicate.slt (two (up x) (up c) (ix2 i 0)) (one (up x) (up c) (ix2 i 0)) = 0#1 := by
        have ho := pick_toNat (least (k0_pay6 (up x) (up c))) i
        have ht := pick_toNat (least (struck (one (up x) (up c)) (k0_pay6 (up x) (up c)))) i
        have h4 : ¬ (two (up x) (up c) (ix2 i 0)).toInt < (one (up x) (up c) (ix2 i 0)).toInt := by
          unfold two one at *
          omega
        show BitVec.ofBool (BitVec.slt _ _) = _
        rw [BitVec.slt, decide_eq_false h4]
        rfl
      rw [h3]
      by_cases e3 : ((Real.sqrt (apart x c i l) : ℝ) : EReal) = ((Real.sqrt (apart x c i n) : ℝ) : EReal) <;> simp [IntOp.ori, IntOp.andi]
    · rw [decide_eq_false e]
      simp [IntOp.ori, IntOp.andi]
  refine ⟨n, ?_, hf'⟩
  rw [codes_eq]
  unfold select
  rw [hb]
  exact hn

end Cert.Proof.VQ

end
-- ==== Proof.RefValue.lean ====
/-
  The reference's values at real arguments: a distance is the root of the squared distance, the index is the first one of a
  least distance, and the row taken at an index in range is the codebook's.
-/
module

public import proofs.«01_k».proof.Proof.RefRun
public import proofs.«01_k».proof.Proof.Scores
public import Idealize.ShloMosaic.Lib.ReduceAll

@[expose] public section

set_option maxRecDepth 16384

noncomputable section

namespace Cert.Proof.Ref

open Cert.ReferenceIdeal Cert.ReferenceIdeal.Gen
open Idealize.ShloMosaic
open Cert.Proof.VQ (First sum_real plus_inf fin_of)

/-! ## The distances -/

theorem dist_apply (z : Vec Ideal S4x256x64 .f32) (cb : Vec Ideal S1024x64 .f32) (x : Fin 64 → ℝ) (c : Fin 1024 → Fin 64 → ℝ)
    (b : Fin 4) (s : Fin 256) (k : Fin 1024) (hz : ∀ t, z (ix3 b s t) = ((x t : ℝ) : EReal)) (hc : ∀ t, cb (ix2 k t) = ((c k t : ℝ) : EReal)) :
    dist z cb (ix3 b s k) = ((Real.sqrt (∑ t, (x t - c k t) * (x t - c k t)) : ℝ) : EReal) := by
  pointwise [dist]
  simp only [hz, hc, ← EReal.coe_sub, ← EReal.coe_mul, sum_real]
  rw [Ideal.sqrt_coe, if_neg (not_lt.2 (Finset.sum_nonneg fun t _ => mul_self_nonneg _))]

/-! ## The index of a least entry -/

/-- One pair comes before another: by value, then by index. -/
def before (a b : EReal × BitVec 32) : Prop := a.1 < b.1 ∨ (a.1 = b.1 ∧ a.2.toInt < b.2.toInt)

theorem before_irrefl (a : EReal × BitVec 32) : ¬ before a a := by
  rintro (h | ⟨-, h⟩) <;> exact lt_irrefl _ h

theorem before_trans {a b c : EReal × BitVec 32} (h : before a b) (h' : before b c) : before a c := by
  rcases h with h | ⟨e, h⟩ <;> rcases h' with h' | ⟨e', h'⟩
  · exact .inl (h.trans h')
  · exact .inl (e' ▸ h)
  · exact .inl (e ▸ h')
  · exact .inr ⟨e.trans e', h.trans h'⟩

theorem not_before_trans {a b c : EReal × BitVec 32} (h : ¬ before a b) (h' : ¬ before b c) : ¬ before a c := by
  unfold before at *
  push Not at *
  refine ⟨h'.1.trans h.1, fun e => ?_⟩
  have e1 : a.1 = b.1 := le_antisymm (e ▸ h'.1) h.1
  exact (h'.2 (e1 ▸ e)).trans (h.2 e1)

open Classical in
/-- The reduction keeps the pair that comes first. -/
theorem reducer_eq (a b : EReal × BitVec 32) : reducer_argmin_f32_i32 (F := Ideal) a b = if before a b then a else b := by
  obtain ⟨a1, a2⟩ := a
  obtain ⟨b1, b2⟩ := b
  unfold reducer_argmin_f32_i32 before
  have e1 : FloatOps.cmpf (F := Ideal) (φ := .f32) CmpFPredicate.olt a1 b1 = BitVec.ofBool (decide (a1 < b1)) := rfl
  have e2 : FloatOps.cmpf (F := Ideal) (φ := .f32) CmpFPredicate.une a1 a1 = BitVec.ofBool (decide (a1 ≠ a1)) := rfl
  have e3 : FloatOps.cmpf (F := Ideal) (φ := .f32) CmpFPredicate.oeq a1 b1 = BitVec.ofBool (decide (a1 = b1)) := rfl
  have e4 : IntOp.cmpi CmpIPredicate.slt a2 b2 = BitVec.ofBool (decide (a2.toInt < b2.toInt)) := rfl
  simp only [e1, e2, e3, e4]
  by_cases h1 : a1 < b1
  · simp [h1, h1.ne, IntOp.ori, IntOp.andi, Scalar.select]
  · by_cases h2 : a1 = b1
    · subst h2
      by_cases h3 : a2.toInt < b2.toInt <;> simp [h3, IntOp.ori, IntOp.andi, Scalar.select]
    · simp [h1, h2, IntOp.ori, IntOp.andi, Scalar.select]

/-- Over a list the reduction ends at a pair of it, or at the initial one, that nothing comes before. -/
theorem foldl_first (l : List (EReal × BitVec 32)) (a : EReal × BitVec 32) :
    (l.foldl (reducer_argmin_f32_i32 (F := Ideal)) a = a ∨ l.foldl (reducer_argmin_f32_i32 (F := Ideal)) a ∈ l)
      ∧ ¬ before a (l.foldl (reducer_argmin_f32_i32 (F := Ideal)) a) ∧ ∀ q ∈ l, ¬ before q (l.foldl (reducer_argmin_f32_i32 (F := Ideal)) a) := by
  classical
  induction l generalizing a with
  | nil => exact ⟨.inl rfl, before_irrefl a, fun q h => absurd h List.not_mem_nil⟩
  | cons p l ih =>
    rw [List.foldl_cons, reducer_eq]
    by_cases h : before a p
    · rw [if_pos h]
      obtain ⟨h1, h2, h3⟩ := ih a
      refine ⟨h1.imp_right (List.mem_cons_of_mem _), h2, fun q hq => ?_⟩
      rcases List.mem_cons.1 hq with rfl | hq
      · exact fun h4 => h2 (before_trans h h4)
      · exact h3 q hq
    · rw [if_neg h]
      obtain ⟨h1, h2, h3⟩ := ih p
      refine ⟨.inr ?_, fun h4 => ?_, fun q hq => ?_⟩
      · rcases h1 with h1 | h1
        · rw [h1]; exact List.mem_cons_self
        · exact List.mem_cons_of_mem _ h1
      · exact not_before_trans h h2 h4
      · rcases List.mem_cons.1 hq with rfl | hq
        · exact h2
        · exact h3 q hq

/-- The table's rows read at start indices: where position `(b, s)` names row `n`, the row `n`. -/
theorem gather_row (cb : Vec Ideal S1024x64 .f32) (w : IVec S4x256x1 32) (b : Fin 4) (s : Fin 256) (t : Fin 64) (n : Fin 1024)
    (hw : (w (ix3 b s 0)).toInt = n.val) :
    Host.gather gather_S1024x64_S4x256x1_S4x256x64_2_0_n_n_0_2_164 cb w (ix3 b s t) = cb (ix2 n t) := by
  have hn := n.isLt
  show cb _ = cb _
  congr 1
  funext a
  refine Fin.ext ?_
  show GatherDims.start _ _ w a + GatherDims.batchCoord _ _ a + GatherDims.offCoord _ _ a = (ix2 n t a).val
  rw [GatherDims.batchCoord_eq_zero _ _ _ List.not_mem_nil, Nat.add_zero]
  fin_cases a
  · have e0 : GatherDims.offCoord gather_S1024x64_S4x256x1_S4x256x64_2_0_n_n_0_2_164 (ix3 b s t) (0 : Fin 2) = 0 :=
      GatherDims.offCoord_eq_zero _ _ _ (by decide)
    have e1 : GatherDims.start gather_S1024x64_S4x256x1_S4x256x64_2_0_n_n_0_2_164 (ix3 b s t) w (0 : Fin 2)
        = min (w (ix3 b s 0)).toInt.toNat 1023 := by
      rw [GatherDims.start, dif_pos (by decide)]
      congr 4
      funext k
      fin_cases k <;> rfl
    refine (congrArg₂ (· + ·) e1 e0).trans ?_
    show min (w (ix3 b s 0)).toInt.toNat 1023 + 0 = n.val
    rw [hw]
    omega
  · have e0 : GatherDims.offCoord gather_S1024x64_S4x256x1_S4x256x64_2_0_n_n_0_2_164 (ix3 b s t) (1 : Fin 2) = t.val := by
      rw [GatherDims.offCoord, dif_pos (by decide)]
      rfl
    have e1 : GatherDims.start gather_S1024x64_S4x256x1_S4x256x64_2_0_n_n_0_2_164 (ix3 b s t) w (1 : Fin 2) = 0 := by
      rw [GatherDims.start, dif_neg (by decide)]
    refine (congrArg₂ (· + ·) e1 e0).trans ?_
    exact Nat.zero_add _

/-- The comparisons' answers on an index below the number of rows. -/
theorem in_range (v : BitVec 32) (h : v.toNat < 1024) :
    v.toInt = v.toNat ∧ IntOp.cmpi .slt v 0#32 = 0#1 ∧ IntOp.cmpi .sge v 0#32 = 1#1 ∧ IntOp.cmpi .sle v 1023#32 = 1#1 := by
  have hv : v.toInt = v.toNat := BitVec.toInt_eq_toNat_of_lt (by omega)
  have h0 : (0#32).toInt = 0 := by decide
  have h1 : (1023#32).toInt = 1023 := by decide
  refine ⟨hv, ?_, ?_, ?_⟩
  · show BitVec.ofBool (decide (v.toInt < (0#32).toInt)) = 0#1
    rw [decide_eq_false (by omega)]; rfl
  · show BitVec.ofBool (decide ((0#32).toInt ≤ v.toInt)) = 1#1
    rw [decide_eq_true (by omega)]; rfl
  · show BitVec.ofBool (decide (v.toInt ≤ (1023#32).toInt)) = 1#1
    rw [decide_eq_true (by omega)]; rfl

/-- The pairs the index of `(b, s)` is taken from: the entries of its row with their numbers. -/
theorem mem_fiber (x : Vec Ideal S4x256x1024 .f32) (b : Fin 4) (s : Fin 256) (q : EReal × BitVec 32) :
    q ∈ Host.argReduceFiber x (iotaInDim S4x256x1024 32 2) reducesTo_S4x256x1024_S4x256_d2 (ix2 b s)
      ↔ ∃ k : Fin 1024, q = (x (ix3 b s k), BitVec.ofNat 32 k.val) := by
  unfold Host.argReduceFiber
  simp only [List.mem_map, List.mem_filter, List.mem_finRange, true_and, decide_eq_true_eq]
  constructor
  · rintro ⟨n, hn, rfl⟩
    generalize S4x256x1024.rowMajor.symm n = i at hn ⊢
    have h0 : (i 0).val = b.val := by
      rw [← reducesTo_S4x256x1024_S4x256_d2.drop_apply_val_of_eq i 0 0, hn]; rfl
    have h1 : (i 1).val = s.val := by
      rw [← reducesTo_S4x256x1024_S4x256_d2.drop_apply_val_of_eq i 1 1, hn]; rfl
    have e : i = ix3 b s (i 2) := by
      funext a; fin_cases a
      · exact Fin.ext h0
      · exact Fin.ext h1
      · rfl
    exact ⟨i 2, Prod.ext (congrArg x e) rfl⟩
  · rintro ⟨k, rfl⟩
    refine ⟨S4x256x1024.rowMajor (ix3 b s k), ?_, ?_⟩
    · rw [Equiv.symm_apply_apply]
      funext a; fin_cases a
      · exact Fin.ext (reducesTo_S4x256x1024_S4x256_d2.drop_apply_val_of_eq (ix3 b s k) 0 0)
      · exact Fin.ext (reducesTo_S4x256x1024_S4x256_d2.drop_apply_val_of_eq (ix3 b s k) 1 1)
    · rw [Equiv.symm_apply_apply]; rfl

theorem nearest_first (x : Vec Ideal S4x256x1024 .f32) (f : Fin 1024 → ℝ) (b : Fin 4) (s : Fin 256)
    (h : ∀ k, x (ix3 b s k) = ((f k : ℝ) : EReal)) : ∃ n : Fin 1024, (nearest x (ix2 b s)).toNat = n.val ∧ First f n := by
  unfold nearest
  rw [Ideal.argReduce_eq_reduce2, Host.reduce2_eq_foldl_fiber]
  have hi : ∀ k : Fin 1024, (BitVec.ofNat 32 k.val).toNat = k.val ∧ (BitVec.ofNat 32 k.val).toInt = k.val := fun k => by
    have hk := k.isLt
    have hn : (BitVec.ofNat 32 k.val).toNat = k.val := by rw [BitVec.toNat_ofNat]; exact Nat.mod_eq_of_lt (by omega)
    exact ⟨hn, by rw [BitVec.toInt_eq_toNat_of_lt (by rw [hn]; omega), hn]⟩
  obtain ⟨h1, -, h3⟩ := foldl_first (Host.argReduceFiber x (iotaInDim S4x256x1024 32 2) reducesTo_S4x256x1024_S4x256_d2 (ix2 b s))
    (constant (F := Ideal) S_ .f32 0x7F800000#32 (Shape.Idx.first h_S_), constantI S_ 32 0#32 (Shape.Idx.first h_S_))
  have hq := fun k => h3 _ ((mem_fiber x b s _).2 ⟨k, rfl⟩)
  generalize List.foldl (reducer_argmin_f32_i32 (F := Ideal)) _ _ = r at h1 h3 hq ⊢
  have hr : ∃ k : Fin 1024, r = (x (ix3 b s k), BitVec.ofNat 32 k.val) := by
    rcases h1 with h1 | h1
    · refine absurd ?_ (hq 0)
      left
      rw [h 0, h1]
      show _ < Ideal.ofBits .f32 2139095040#32
      rw [plus_inf]
      exact EReal.coe_lt_top _
    · exact (mem_fiber x b s _).1 h1
  obtain ⟨n, rfl⟩ := hr
  refine ⟨n, (hi n).1, fun k => ?_⟩
  have h4 := hq k
  unfold before at h4
  push Not at h4
  simp only [h, (hi _).2, EReal.coe_le_coe_iff, EReal.coe_eq_coe_iff] at h4
  exact ⟨h4.1, fun e => by have := h4.2 e; rw [Fin.le_def]; omega⟩

/-! ## The rows taken -/

theorem taken_apply (cb : Vec Ideal S1024x64 .f32) (ix : IVec S4x256 32) (b : Fin 4) (s : Fin 256) (t : Fin 64) (n : Fin 1024)
    (h : (ix (ix2 b s)).toNat = n.val) : taken cb ix (ix3 b s t) = cb (ix2 n t) := by
  unfold taken
  have hn := n.isLt
  obtain ⟨hv, c1, c2, c3⟩ := in_range (ix (ix2 b s)) (by omega)
  have hwr : wrapped ix (ix2 b s) = ix (ix2 b s) := by
    show Scalar.select (IntOp.cmpi .slt (ix (ix2 b s)) 0#32) _ _ = _
    rw [c1]; rfl
  have hw : (broadcastInDim S4x256x1 ![0, 1] bcast_S4x256_S4x256x1_0_1 (wrapped ix)) (ix3 b s 0) = ix (ix2 b s) := by
    refine Eq.trans ?_ hwr
    pointwise []
  have hg := gather_row cb _ b s t n (hw ▸ hv.trans (congrArg Nat.cast h))
  pointwise []
  rw [hg]
  simp only [hwr, c2, c3]
  have hf : ∀ S : Finset (Fin 1), Finset.fold IntOp.andi (1#1) (fun _ => IntOp.andi 1#1 1#1) S = 1#1 := fun S => by
    induction S using Finset.induction_on with
    | empty => rfl
    | insert a S ha ih => rw [Finset.fold_insert ha, ih]; rfl
  rw [show Finset.fold IntOp.andi (1#1) (fun _ => IntOp.andi 1#1 1#1) Finset.univ = 1#1 from hf _]
  rfl

end Cert.Proof.Ref

end
-- ==== Proof.Agree.lean ====
/-
  The two programs' results agree where the arguments are finite: both indices are the first of the least distances, and both
  rows are the codebook's row of that index.
-/
module

public import proofs.«01_k».proof.Proof.Main
public import proofs.«01_k».proof.Proof.RefValue
public import proofs.«01_k».proof.Proof.Gen.Pre_finite
public import Idealize.ShloMosaic.Lib.KernelVsHost

@[expose] public section

set_option maxRecDepth 16384

noncomputable section

namespace Cert.Proof.VQ

open Cert.KernelIdeal Cert.KernelIdeal.Gen
open Idealize.ShloMosaic

/-! ## Finite arguments are reals -/

/-- An extended real below infinity in magnitude is a real. -/
theorem real_of_abs (a : EReal) (h : max a (-a) < ⊤) : ((a.toReal : ℝ) : EReal) = a := by
  refine EReal.coe_toReal (fun e => ?_) (fun e => ?_)
  · rw [e] at h; exact absurd h (by simp)
  · rw [e] at h; exact absurd h (by simp)

/-- Where the precondition holds of two arrays, their entries are reals. -/
theorem reals (z : Vec Ideal S4x256x64 .f32) (cb : Vec Ideal S1024x64 .f32) (h : Cert.Pre_finite.fn (F := Ideal) z cb = fun _ => 1#1) :
    (∀ j, (((z j : EReal).toReal : ℝ) : EReal) = z j) ∧ ∀ j, (((cb j : EReal).toReal : ℝ) : EReal) = cb j := by
  dsimp only [Cert.Pre_finite.fn] at h
  have h0 := congrFun h (Shape.Idx.first (by decide))
  have h1 : ∀ p q : BitVec 1, IntOp.andi p q = 1#1 → p = 1#1 ∧ q = 1#1 := by decide
  obtain ⟨ha, hb⟩ := h1 _ _ h0
  haveI : Subsingleton Cert.Pre_finite.S_.Idx := ⟨fun a b => funext fun k => k.elim0⟩
  have key : ∀ a : EReal, BitVec.ofBool (decide (max a (-a) < Ideal.ofBits .f32 2139095040#32)) = 1#1 → ((a.toReal : ℝ) : EReal) = a :=
    fun a e => real_of_abs a (plus_inf ▸ (ofBool_iff _).1 e)
  exact ⟨fun j => key _ (Host.reduce_andi_all _ _ _ _ _ ha j), fun j => key _ (Host.reduce_andi_all _ _ _ _ _ hb j)⟩

/-! ## The indices -/

/-- Position `(b, s)`'s row among the latents. -/
def rowOf (b : Fin 4) (s : Fin 256) : Fin 1024 := ⟨b.val * 256 + s.val, by have := b.isLt; have := s.isLt; omega⟩

/-- The first of the least scores is the first of the least distances. -/
theorem first_sqrt (x c : Fin 1024 → Fin 64 → ℝ) (i n : Fin 1024) (h : First (score x c i) n) : First (fun k => Real.sqrt (apart x c i k)) n := fun k => by
  obtain ⟨h1, h2⟩ := h k
  refine ⟨Real.sqrt_le_sqrt (by rw [apart_eq, apart_eq]; linarith), fun e => h2 ?_⟩
  have e1 := (Real.sqrt_inj (apart_nonneg x c i k) (apart_nonneg x c i n)).1 e
  rw [apart_eq, apart_eq] at e1
  linarith

variable (m : (ℓ : Loc nD τ sig) → Buf (Elt Ideal) ℓ)

/-- The kernel's two arguments as arrays. -/
abbrev latents (d : Dev nD) : Vec Ideal S4x256x64 .f32 := m ((SparseCore.T d).loc main_arg0)

/-- The latents as reals, a row per position. -/
def zr (d : Dev nD) (i : Fin 1024) (t : Fin 64) : ℝ := (zRows m d (ix2 i t) : EReal).toReal
/-- The codebook as reals. -/
def cr (d : Dev nD) (k : Fin 1024) (t : Fin 64) : ℝ := (book m d (ix2 k t) : EReal).toReal

/-- A latent's row, where it lies in the argument. -/
theorem zRows_apply (d : Dev nD) (b : Fin 4) (s : Fin 256) (t : Fin 64) : zRows m d (ix2 (rowOf b s) t) = latents m d (ix3 b s t) :=
  shapeCast_apply _ _ _ _ (by
    refine (Shape.rowMajor_val_three _).trans (Eq.trans ?_ (Shape.rowMajor_val_two _).symm)
    rfl)

/-- The index at a position is the code of its row. -/
theorem indices_apply (d : Dev nD) (b : Fin 4) (s : Fin 256) : indices m d (ix2 b s) = codeCol m d (ix2 (rowOf b s) 0) :=
  shapeCast_apply _ _ _ _ (by
    refine (Shape.rowMajor_val_two _).trans (Eq.trans ?_ (Shape.rowMajor_val_two _).symm)
    show (b.val * 256 + s.val) * 1 + 0 = b.val * 256 + s.val
    omega)

/-- The index list's word at a row is the row's code. -/
theorem codeList_apply (d : Dev nD) (i : Fin 1024) : (codeList m d : IVec S1024 32) (iPos i) = codeCol m d (ix2 i 0) :=
  shapeCast_apply _ _ _ _ (by
    refine (Shape.rowMajor_val_two _).trans (Eq.trans ?_ (Shape.rowMajor_val_one _).symm)
    show i.val * 1 + 0 = i.val
    omega)

/-- The padded table's row below the padding is the codebook's. -/
theorem padded_apply (d : Dev nD) (n : Fin 1024) (h : n.val < 1032) (t : Fin 64) (l : Fin 128) (hl : l.val = t.val) :
    (padded m d : Vec Ideal S1032x128 .f32) (tRow n.val h l) = book m d (ix2 n t) := by
  refine pad_apply_of_inside _ _ _ _ _ _ _ _ (ix2 n t) fun a => ?_
  fin_cases a
  · show n.val = 0 + n.val * (0 + 1)
    omega
  · show l.val = 0 + t.val * (0 + 1)
    omega

/-- The row the kernel leaves at a position whose code is `n`: the codebook's row `n`. -/
theorem quantized_apply (d : Dev nD) (b : Fin 4) (s : Fin 256) (t : Fin 64) (n : Fin 1024)
    (h : (codeCol m d (ix2 (rowOf b s) 0)).toNat = n.val) : quantized m d (ix3 b s t) = book m d (ix2 n t) := by
  have ht := t.isLt
  refine (shapeCast_apply _ _ _ (ix2 (rowOf b s) t) (by
    refine (Shape.rowMajor_val_two _).trans (Eq.trans ?_ (Shape.rowMajor_val_three _).symm)
    rfl)).trans ?_
  have hn : ((codeList m d : IVec S1024 32) (iPos (rowOf b s))).toNat = n.val := by rw [codeList_apply, h]
  have e : (extractStridedSlice S1024x64 ![0, 0] (rows m d : Vec Ideal S1024x128 .f32) slices_S1024x128_S1024x64_0_0) (ix2 (rowOf b s) t)
      = (rows m d : Vec Ideal S1024x128 .f32) (ix2 (rowOf b s) ⟨t.val, by omega⟩) := by
    refine congrArg (rows m d : Vec Ideal S1024x128 .f32) (funext fun a => ?_)
    fin_cases a
    · exact Fin.ext (Nat.zero_add _)
    · exact Fin.ext (Nat.zero_add _)
  refine e.trans ?_
  show gathered (padded m d) (codeList m d) _ = _
  have hlt : ((codeList m d : IVec S1024 32) (iPos (rowOf b s))).toNat < 1032 := by have := n.isLt; omega
  unfold gathered
  refine (dif_pos hlt).trans ?_
  refine Eq.trans ?_ (padded_apply m d n (by have := n.isLt; omega) t ⟨t.val, by omega⟩ rfl)
  refine congrArg (padded m d : Vec Ideal S1032x128 .f32) (funext fun a => ?_)
  fin_cases a
  · exact Fin.ext hn
  · rfl

/-! ## The agreement -/

/-- At finite arguments the code of a position's row is the first of the least distances, and so is the reference's index. -/
theorem agree_index (d : Dev nD) (h : Cert.Pre_finite.fn (F := Ideal) (latents m d) (book m d) = fun _ => 1#1) (b : Fin 4) (s : Fin 256) :
    ∃ n : Fin 1024, (codeCol m d (ix2 (rowOf b s) 0)).toNat = n.val
      ∧ (Ref.nearest (Ref.dist (latents m d) (book m d)) (ix2 b s)).toNat = n.val := by
  obtain ⟨hz, hc⟩ := reals _ _ h
  have hz1 : ∀ i t, ((zr m d i t : ℝ) : EReal) = zRows m d (ix2 i t) := fun i t => hz _
  have hc1 : ∀ k t, ((cr m d k t : ℝ) : EReal) = book m d (ix2 k t) := fun k t => hc _
  have ez : zRows m d = up (zr m d) := funext fun j => by
    obtain ⟨i, t, rfl⟩ : ∃ (i : Fin 1024) (t : Fin 64), j = ix2 i t := ⟨j 0, j 1, by funext a; fin_cases a <;> rfl⟩
    exact (hz1 i t).symm
  have ec : book m d = up (cr m d) := funext fun j => by
    obtain ⟨i, t, rfl⟩ : ∃ (i : Fin 1024) (t : Fin 64), j = ix2 i t := ⟨j 0, j 1, by funext a; fin_cases a <;> rfl⟩
    exact (hc1 i t).symm
  obtain ⟨n, hn, hf⟩ := codes_first (zr m d) (cr m d) (rowOf b s)
  obtain ⟨k, hk, hg⟩ := Ref.nearest_first (Ref.dist (latents m d) (book m d)) (fun k => Real.sqrt (apart (zr m d) (cr m d) (rowOf b s) k)) b s
    fun k => Ref.dist_apply _ _ (zr m d (rowOf b s)) (cr m d) b s k
      (fun t => (zRows_apply m d b s t).symm.trans (hz1 _ t).symm) (fun t => (hc1 k t).symm)
  have e := First.unique (first_sqrt _ _ _ _ hf) hg
  refine ⟨n, ?_, e ▸ hk⟩
  unfold codeCol
  rw [ez, ec]
  exact hn

/-- At finite arguments the kernel's indices are the reference's. -/
theorem agree_indices (d : Dev nD) (h : Cert.Pre_finite.fn (F := Ideal) (latents m d) (book m d) = fun _ => 1#1) :
    Ref.nearest (Ref.dist (latents m d) (book m d)) = indices m d := funext fun j => by
  obtain ⟨b, s, rfl⟩ : ∃ (b : Fin 4) (s : Fin 256), j = ix2 b s := ⟨j 0, j 1, by funext a; fin_cases a <;> rfl⟩
  obtain ⟨n, h1, h2⟩ := agree_index m d h b s
  exact BitVec.eq_of_toNat_eq (h2.trans ((congrArg BitVec.toNat (indices_apply m d b s)).trans h1).symm)

/-- At finite arguments the kernel's rows are the reference's. -/
theorem agree_quantized (d : Dev nD) (h : Cert.Pre_finite.fn (F := Ideal) (latents m d) (book m d) = fun _ => 1#1) :
    Ref.taken (book m d) (Ref.nearest (Ref.dist (latents m d) (book m d))) = quantized m d := funext fun j => by
  obtain ⟨b, s, t, rfl⟩ : ∃ (b : Fin 4) (s : Fin 256) (t : Fin 64), j = ix3 b s t := ⟨j 0, j 1, j 2, by funext a; fin_cases a <;> rfl⟩
  obtain ⟨n, h1, h2⟩ := agree_index m d h b s
  exact (Ref.taken_apply _ _ b s t n h2).trans (quantized_apply m d b s t n h1).symm

end Cert.Proof.VQ

end
-- ==== Proof.lean ====
/-
  The claims: the kernel runs and leaves its arguments alone, at bit patterns and at extended reals, the reference does too,
  and at finite arguments the two leave the same rows and the same indices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Agree
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts in
/-- The two printings of the kernel have the same bodies, whichever processor runs which label. -/
theorem bodies_eq : Cert.Kernel.defs₀ (F := Bits) = Cert.KernelIdeal.defs₀ (F := Bits) := by
  funext p l a
  match p, l, a with
  | .tc, 0, (t, s) => rfl
  | .tc, 1, _ => rfl
  | .scScalar c, 0, _ => rfl
  | .scScalar c, 1, _ => rfl
  | .scVector c s, 0, _ => rfl
  | .scVector c s, 1, _ => rfl

attribute [local instance] Cert.Kernel.Gen.facts Cert.KernelIdeal.Gen.facts in
/-- So they have the same table of bodies. -/
theorem defs_eq : Cert.Kernel.defs (F := Bits) = Cert.KernelIdeal.defs (F := Bits) :=
  congrArg (fun D => Cert.KernelIdeal.sc.defs (Pipeline.defs Cert.KernelIdeal.pcfgs D)) bodies_eq

/-- The kernel at bit patterns runs from every memory, leaving its arguments as they were and its semaphores at zero. -/
theorem frame_bits : quiescent_Kernel (hKernel := Cert.Kernel.Gen.facts) := fun m ρ _ => by
  have h : θ_run (Cert.KernelIdeal.defs (F := Bits)) (Cert.KernelIdeal.threads (F := Bits)) ⟨m, fun _ => 0, ρ⟩
      (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) ∧ r.2.sem = fun _ => 0) :=
    (θ_run Cert.KernelIdeal.defs _ _).mono (fun _ h => ⟨fun c => ⟨(h.1 c).1, (h.1 c).2.1⟩, h.2⟩)
      (VQ.run_main (F := Bits) m ρ VQ.codes_lt)
  rw [defs_eq]
  exact h

/-- The kernel at extended reals runs from every memory, leaving its arguments as they were and its semaphores at zero. -/
theorem frame_ideal : quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (VQ.run_main (F := Ideal) m ρ VQ.codes_lt)

/-- The reference runs from every memory, leaving its arguments as they were and its semaphores at zero. -/
theorem frame_reference : quiescent_ReferenceIdeal (hReferenceIdeal := Cert.ReferenceIdeal.Gen.facts) := fun m ρ _ =>
  (θ_run Cert.ReferenceIdeal.defs _ _).mono (fun _ h => ⟨fun c => ⟨(h.1 c).1, (h.1 c).2.1⟩, h.2⟩) (Ref.run_main (F := Ideal) m ρ)

/-- From memories with the same finite arguments, the kernel and the reference leave the same rows and the same indices. -/
theorem agree : algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' pre same =>
  ⟨fun d => VQ.quantized m d, fun d => VQ.indices m d,
    (θ_run Cert.KernelIdeal.defs _ _).mono (fun _ h c => ⟨(h.1 c).2.2.1, (h.1 c).2.2.2, (h.1 c).1, (h.1 c).2.1⟩)
      (VQ.run_main (F := Ideal) m ρ VQ.codes_lt),
    (θ_run Cert.ReferenceIdeal.defs _ _).mono (fun _ h c => by
      obtain ⟨h0, h1, h7, h6⟩ := h.1 c
      obtain ⟨s0, s1⟩ := same c
      have e6 : Ref.indices m' c = Ref.nearest (Ref.dist (VQ.latents m c) (VQ.book m c)) :=
        congrArg₂ (fun a b => Ref.nearest (Ref.dist a b)) s0 s1
      have e7 : Ref.quantized m' c = Ref.taken (VQ.book m c) (Ref.nearest (Ref.dist (VQ.latents m c) (VQ.book m c))) :=
        congrArg₂ (fun a b => Ref.taken b (Ref.nearest (Ref.dist a b))) s0 s1
      exact ⟨h7.trans (e7.trans (VQ.agree_quantized m c (pre c))), h6.trans (e6.trans (VQ.agree_indices m c (pre c))), h0, h1⟩)
      (Ref.run_main (F := Ideal) m' ρ')⟩

theorem claim : Cert.Claim := ⟨Cert.Kernel.Gen.facts, Cert.KernelIdeal.Gen.facts, Cert.ReferenceIdeal.Gen.facts, Cert.Pre_finite.Gen.facts, by
  exact ⟨frame_bits, frame_ideal, fun m ρ _ => frame_ideal m ρ trivial, frame_reference, fun m ρ _ => frame_reference m ρ trivial,
    trivial, agree⟩⟩

end Cert.Proof

end
